-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x2048x64 : Shape := ⟨3, ![8, 2048, 64]⟩
abbrev S8x2048x1 : Shape := ⟨3, ![8, 2048, 1]⟩
abbrev S1025x64 : Shape := ⟨2, ![1025, 64]⟩
abbrev S_ : Shape := ⟨0, ![]⟩
abbrev S1024x64 : Shape := ⟨2, ![1024, 64]⟩

class Facts : Prop where
  slices_S1025x64_S1024x64_1_0 : S1025x64.Slices ![1, 0] S1024x64
  bcast_S_S8x2048x1 : S_.BroadcastsInDim S8x2048x1 (![] : Fin 0 → Fin S8x2048x1.rank)
  reducesTo_S8x2048x1_S_d0_1_2 : S8x2048x1.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S8x2048x64 .f32) (main_arg1 : FVec F S8x2048x1 .f32) (main_arg2 : FVec F S1025x64 .f32) (main_arg3 : IVec S_ 32) : IVec S_ 1 :=
  let main_v0 : FVec F S1024x64 .f32 := (extractStridedSlice S1024x64 ![1, 0] · slices_S1025x64_S1024x64_1_0) main_arg2
  let main_cst : FVec F S_ .f32 := constant S_ .f32 0x00000000#32
  let main_v1 : FVec F S8x2048x1 .f32 := broadcastInDim S8x2048x1 ![] bcast_S_S8x2048x1 main_cst
  let main_v2 : IVec S8x2048x1 1 := cmpf .oeq main_arg1 main_v1
  let main_cst_0 : FVec F S_ .f32 := constant S_ .f32 0x3F800000#32
  let main_v3 : FVec F S8x2048x1 .f32 := broadcastInDim S8x2048x1 ![] bcast_S_S8x2048x1 main_cst_0
  let main_v4 : IVec S8x2048x1 1 := cmpf .oeq main_arg1 main_v3
  let main_v5 : IVec S8x2048x1 1 := ori main_v2 main_v4
  let main_c : IVec S_ 1 := constantI S_ 1 1#1
  let main_v6 : IVec S_ 1 := (fun x v => Host.reduce IntOp.andi x v reducesTo_S8x2048x1_S_d0_1_2 h_S_) main_v5 main_c
  let main_cst_1 : FVec F S_ .f32 := constant S_ .f32 0x7F800000#32
  let main_v7 : FVec F S1024x64 .f32 := broadcastInDim S1024x64 ![] bcast_S_S1024x64 main_cst_1
  let main_v8 : IVec S1024x64 1 := cmpf .olt main_v0 main_v7
  let main_cst_2 : FVec F S_ .f32 := constant S_ .f32 0xFF800000#32
  let main_v9 : FVec F S1024x64 .f32 := broadcastInDim S1024x64 ![] bcast_S_S1024x64 main_cst_2
  let main_v10 : IVec S1024x64 1 := cmpf .ogt main_v0 main_v9
  let main_v11 : IVec S1024x64 1 := andi main_v8 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v6 main_v12
  main_v13
-- ==== Kernel.lean ====
abbrev S8x2048x64 : Shape := ⟨3, ![8, 2048, 64]⟩
abbrev S8x2048x1 : Shape := ⟨3, ![8, 2048, 1]⟩
abbrev S1025x64 : Shape := ⟨2, ![1025, 64]⟩
abbrev S_ : Shape := ⟨0, ![]⟩
abbrev S1024x64 : Shape := ⟨2, ![1024, 64]⟩
abbrev S1 : Shape := ⟨1, ![1]⟩
abbrev S8x2048x1024 : Shape := ⟨3, ![8, 2048, 1024]⟩
abbrev S1x128 : Shape := ⟨2, ![1, 128]⟩
abbrev S1x512x64 : Shape := ⟨3, ![1, 512, 64]⟩
abbrev S1x512x1 : Shape := ⟨3, ![1, 512, 1]⟩
abbrev S1x512x1024 : Shape := ⟨3, ![1, 512, 1024]⟩
abbrev S8x128 : Shape := ⟨2, ![8, 128]⟩
abbrev S512x64 : Shape := ⟨2, ![512, 64]⟩
abbrev S512x1 : Shape := ⟨2, ![512, 1]⟩
abbrev S512 : Shape := ⟨1, ![512]⟩
abbrev S1024 : Shape := ⟨1, ![1024]⟩
abbrev S512x1024 : Shape := ⟨2, ![512, 1024]⟩
abbrev S1x1024 : Shape := ⟨2, ![1, 1024]⟩
abbrev S1x1x1 : Shape := ⟨3, ![1, 1, 1]⟩
abbrev S511x64 : Shape := ⟨2, ![511, 64]⟩
abbrev S511 : Shape := ⟨1, ![511]⟩
abbrev S511x1 : Shape := ⟨2, ![511, 1]⟩
abbrev S1x511x1 : Shape := ⟨3, ![1, 511, 1]⟩
abbrev S1x64 : Shape := ⟨2, ![1, 64]⟩
abbrev S1x1x64 : Shape := ⟨3, ![1, 1, 64]⟩
abbrev S1x1 : Shape := ⟨2, ![1, 1]⟩
abbrev S16384 : Shape := ⟨1, ![16384]⟩

abbrev nBuf : Space → Nat
  | .hbm => 23
  | .vmem => 11
  | .smem => 1
  | _ => 0

abbrev bufTy : (tb : Table) → Fin (tcTables nBuf tb) → BufTy
  | .hbm, ⟨0, _⟩ => ⟨S8x2048x64, .f32⟩
  | .hbm, ⟨1, _⟩ => ⟨S8x2048x1, .f32⟩
  | .hbm, ⟨2, _⟩ => ⟨S1025x64, .f32⟩
  | .hbm, ⟨3, _⟩ => ⟨S_, .i32⟩
  | .hbm, ⟨4, _⟩ => ⟨S1024x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S8x2048x1024, .f32⟩
  | .hbm, ⟨10, _⟩ => ⟨S8x2048x1, .i32⟩
  | .hbm, ⟨11, _⟩ => ⟨S1x128, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S16384, .i32⟩
  | .local _ .vmem, ⟨0, _⟩ => ⟨S1x512x64, .f32⟩
  | .local _ .vmem, ⟨1, _⟩ => ⟨S1x512x64, .f32⟩
  | .local _ .vmem, ⟨2, _⟩ => ⟨S1x512x1, .f32⟩
  | .local _ .vmem, ⟨3, _⟩ => ⟨S1x512x1, .f32⟩
  | .local _ .vmem, ⟨4, _⟩ => ⟨S1024x64, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1, .i32⟩
  | .local _ .vmem, ⟨8, _⟩ => ⟨S1x512x1, .i32⟩
  | .local _ .vmem, ⟨9, _⟩ => ⟨S1x128, .f32⟩
  | .local _ .vmem, ⟨10, _⟩ => ⟨S8x128, .f32⟩
  | .local _ .smem, ⟨0, _⟩ => ⟨S1, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32_40 : BitVec 32 := 0#32
  let v123 : BitVec 1 := Scalar.cmpi .eq arg0 c0_i32_40
  let arg1 : BitVec 32 := BitVec.ofNat 32 (i 1).val
  let c0_i32_41 : BitVec 32 := 0#32
  let v124 : BitVec 1 := Scalar.cmpi .eq arg1 c0_i32_41
  let v125 : BitVec 1 := Scalar.andi v123 v124
  let v126 : BitVec 32 := Scalar.extui v125
  let c0_i32_42 : BitVec 32 := 0#32
  let v127 : BitVec 1 := Scalar.cmpi .ne v126 c0_i32_42
  v127

def k0_cond2 (i : grid0.Coords) : BitVec 1 :=
  let arg0 : BitVec 32 := BitVec.ofNat 32 (i 0).val
  let c0_i32_40 : BitVec 32 := 0#32
  let v123 : BitVec 1 := Scalar.cmpi .eq arg0 c0_i32_40
  let arg1 : BitVec 32 := BitVec.ofNat 32 (i 1).val
  let c0_i32_41 : BitVec 32 := 0#32
  let v124 : BitVec 1 := Scalar.cmpi .eq arg1 c0_i32_41
  let v125 : BitVec 1 := Scalar.andi v123 v124
  let v_true : BitVec 1 := 1#1
  let v128 : BitVec 1 := Scalar.xori v125 v_true
  let v129 : BitVec 32 := Scalar.extui v128
  let c0_i32_43 : BitVec 32 := 0#32
  let v130 : BitVec 1 := Scalar.cmpi .ne v129 c0_i32_43
  v130

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S8x2048x64 : Shape := ⟨3, ![8, 2048, 64]⟩
abbrev S8x2048x1 : Shape := ⟨3, ![8, 2048, 1]⟩
abbrev S1025x64 : Shape := ⟨2, ![1025, 64]⟩
abbrev S_ : Shape := ⟨0, ![]⟩
abbrev S1024x64 : Shape := ⟨2, ![1024, 64]⟩
abbrev S8x2048 : Shape := ⟨2, ![8, 2048]⟩
abbrev S16384x64 : Shape := ⟨2, ![16384, 64]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S8x2048x1024 : Shape := ⟨3, ![8, 2048, 1024]⟩
abbrev S16384x2 : Shape := ⟨2, ![16384, 2]⟩
abbrev S8x2047x64 : Shape := ⟨3, ![8, 2047, 64]⟩
abbrev S8x2047x1 : Shape := ⟨3, ![8, 2047, 1]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x1, .f32⟩
  | .hbm, ⟨2, _⟩ => ⟨S1025x64, .f32⟩
  | .hbm, ⟨3, _⟩ => ⟨S_, .i32⟩
  | .hbm, ⟨4, _⟩ => ⟨S1024x64, .f32⟩
  | .hbm, ⟨5, _⟩ => ⟨S8x2048x64, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x64, .f32⟩
  | .hbm, ⟨14, _⟩ => ⟨S8x2048x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S64x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x64, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S8x2048x1024, .f32⟩
  | .hbm, ⟨65, _⟩ => ⟨S8x2048x1024, .f32⟩
  | .hbm, ⟨66, _⟩ => ⟨S16384x1024, .i32⟩
  | .hbm, ⟨67, _⟩ => ⟨S_, .f32⟩
  | .hbm, ⟨68, _⟩ => ⟨S_, .i32⟩
  | .hbm, ⟨69, _⟩ => ⟨S16384, .f32⟩
  | .hbm, ⟨70, _⟩ => ⟨S16384, .i32⟩
  | .hbm, ⟨71, _⟩ => ⟨S_, .f32⟩
  | .hbm, ⟨72, _⟩ => ⟨S16384x1024, .f32⟩
  | .hbm, ⟨73, _⟩ => ⟨S16384, .i32⟩
  | .hbm, ⟨74, _⟩ => ⟨S_, .i32⟩
  | .hbm, ⟨75, _⟩ => ⟨S16384, .i32⟩
  | .hbm, ⟨76, _⟩ => ⟨S16384, .i1⟩
  | .hbm, ⟨77, _⟩ => ⟨S_, .i32⟩
  | .hbm, ⟨78, _⟩ => ⟨S16384, .i32⟩
  | .hbm, ⟨79, _⟩ => ⟨S16384, .i32⟩
  | .hbm, ⟨80, _⟩ => ⟨S16384, .i32⟩
  | .hbm, ⟨81, _⟩ => ⟨S_, .i32⟩
  | .hbm, ⟨82, _⟩ => ⟨S16384, .i32⟩
  | .hbm, ⟨83, _⟩ => ⟨S16384, .i1⟩
  | .hbm, ⟨84, _⟩ => ⟨S_, .i32⟩
  | .hbm, ⟨85, _⟩ => ⟨S16384, .i32⟩
  | .hbm, ⟨86, _⟩ => ⟨S16384, .i32⟩
  | .hbm, ⟨87, _⟩ => ⟨S16384, .i32⟩
  | .hbm, ⟨88, _⟩ => ⟨S16384x1, .i32⟩
  | .hbm, ⟨89, _⟩ => ⟨S16384x1, .i32⟩
  | .hbm, ⟨90, _⟩ => ⟨S16384x2, .i32⟩
  | .hbm, ⟨91, _⟩ => ⟨S_, .f32⟩
  | .hbm, ⟨92, _⟩ => ⟨S16384, .f32⟩
  | .hbm, ⟨93, _⟩ => ⟨S16384x1024, .f32⟩
  | .hbm, ⟨94, _⟩ => ⟨S16384x64, .f32⟩
  | .hbm, ⟨95, _⟩ => ⟨S8x2048x64, .f32⟩
  | .hbm, ⟨96, _⟩ => ⟨S8x2048x64, .f32⟩
  | .hbm, ⟨97, _⟩ => ⟨S8x2048x64, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S8x2048x64, .f32⟩
  | .hbm, ⟨103, _⟩ => ⟨S8x2048x64, .f32⟩
  | .hbm, ⟨104, _⟩ => ⟨S8x2048x64, .f32⟩
  | .hbm, ⟨105, _⟩ => ⟨S8x2048x64, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S8x2047x64, .f32⟩
  | .hbm, ⟨110, _⟩ => ⟨S8x2047x64, .f32⟩
  | .hbm, ⟨111, _⟩ => ⟨S8x2047x64, .f32⟩
  | .hbm, ⟨112, _⟩ => ⟨S8x2047x64, .f32⟩
  | .hbm, ⟨113, _⟩ => ⟨S8x2047x1, .f32⟩
  | .hbm, ⟨114, _⟩ => ⟨S8x2047x64, .f32⟩
  | .hbm, ⟨115, _⟩ => ⟨S8x2047x64, .f32⟩
  | .hbm, ⟨116, _⟩ => ⟨S_, .f32⟩
  | .hbm, ⟨117, _⟩ => ⟨S_, .f32⟩
  | .hbm, ⟨118, _⟩ => ⟨S_, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_cst : Ref sig .tc := ⟨.hbm, 41, rfl⟩
abbrev main_call1_v0 : Ref sig .tc := ⟨.hbm, 42, rfl⟩
abbrev main_call1_cst_0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_cst_1 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call2_v0 : Ref sig .tc := ⟨.hbm, 66, rfl⟩
abbrev main_call2_cst : Ref sig .tc := ⟨.hbm, 67, rfl⟩
abbrev main_call2_c : Ref sig .tc := ⟨.hbm, 68, rfl⟩
abbrev main_call2_v1_0 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_c : Ref sig .tc := ⟨.hbm, 74, rfl⟩
abbrev main_v40 : Ref sig .tc := ⟨.hbm, 75, rfl⟩
abbrev main_v41 : Ref sig .tc := ⟨.hbm, 76, rfl⟩
abbrev main_c_7 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_8 : Ref sig .tc := ⟨.hbm, 81, rfl⟩
abbrev main_v45 : Ref sig .tc := ⟨.hbm, 82, rfl⟩
abbrev main_v46 : Ref sig .tc := ⟨.hbm, 83, rfl⟩
abbrev main_c_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_10 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_11 : Ref sig .tc := ⟨.hbm, 98, rfl⟩
abbrev main_v59 : Ref sig .tc := ⟨.hbm, 99, rfl⟩
abbrev main_cst_12 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_13 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_14 : Ref sig .tc := ⟨.hbm, 116, rfl⟩
abbrev main_v74 : Ref sig .tc := ⟨.hbm, 117, rfl⟩
abbrev main_v75 : Ref sig .tc := ⟨.hbm, 118, rfl⟩

abbrev nD : Nat := 1
abbrev τ : Topo := Topo.v7x

variable {F : FTy → Type} [FloatOps F]
-- ==== Proof.Points.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Pipeline.Value
public import Idealize.ShloMosaic.Lib.Claim

@[expose] public section

set_option maxRecDepth 16384

noncomputable section

/-! What the grid's 32 points are to the kernel: which of the body's two branches a point takes, which staging
    buffers it works on, and that the accumulator's buffer is kept from point to point. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-- The branch that starts the accumulator is taken at the first point only. -/
theorem starts_iff : ∀ t : Fin cfg0.N, k0_cond1 (grid0.coords t) = 1#1 ↔ t.val = 0 :=
  (by decide +kernel : ∀ t : Fin grid0.N, k0_cond1 (grid0.coords t) = 1#1 ↔ t.val = 0)

/-- The branch that adds to the accumulator is taken at every later point. -/
theorem adds_iff : ∀ t : Fin cfg0.N, k0_cond2 (grid0.coords t) = 1#1 ↔ 1 ≤ t.val :=
  (by decide +kernel : ∀ t : Fin grid0.N, k0_cond2 (grid0.coords t) = 1#1 ↔ 1 ≤ t.val)

/-- Every point stores into the accumulator, by one branch or the other. -/
theorem acc_live : ∀ t : Fin cfg0.N, cfg0.idle 6 (grid0.coords t) = false := by decide +kernel

/-- Positions at which the accumulator's buffer holds nothing the body stored: the start, and past the last point. -/
def accFresh : ℕ → Bool
  | 0 => true
  | n + 1 => decide (n = 31)

/-- The table follows the schedule from one position to the next. -/
theorem accFresh_step : ∀ t : Fin cfg0.N,
    accFresh (t.val + 1) = ((cfg0.win 6).flush t || (cfg0.idle 6 (cfg0.grid.coords t) && accFresh t.val)) := by
  decide +kernel

/-- The table is the schedule's own. -/
theorem accFresh_eq (t : Fin cfg0.N) : cfg0.fresh 6 t.val = accFresh t.val :=
  Pipeline.Cfg.fresh_tab cfg0 6 accFresh rfl accFresh_step t.val (Nat.le_of_lt t.isLt)

/-- After the first point the accumulator's buffer holds what the body left there. -/
theorem acc_kept : ∀ t : Fin cfg0.N, 1 ≤ t.val → cfg0.fresh 6 t.val = false := by
  intro t; rw [accFresh_eq t]; revert t; decide +kernel

/-- Each window's staging buffer at a point, and that it is a whole buffer. -/
abbrev stg0 (t : Fin cfg0.N) : Memref sig .tc .smem S1 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x512x64 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x512x1 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1024x64 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x512x1024 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x512x1 .i32 := win0_5.stage (cfg0.slots t 5)
abbrev whole5 (t : Fin cfg0.N) : (stg5 t).IsWhole := hstage0_5 ((cfg0.slots t 5).cast nbuf0_5)
abbrev stg6 (t : Fin cfg0.N) : Memref sig .tc .vmem S1x128 .f32 := win0_6.stage (cfg0.slots t 6)
abbrev whole6 (t : Fin cfg0.N) : (stg6 t).IsWhole := hstage0_6 ((cfg0.slots t 6).cast nbuf0_6)
/-- The kernel's own scratch buffer. -/
abbrev carryM : Memref sig .tc .vmem S8x128 .f32 := Memref.whole cc0_scratch0

/-- The launch's share of the region: the scratch at some contents and the generator register at some state. -/
theorem rest_eq (c : Dev nD) :
    (Pipeline.ΦA spec0 c : sProp 𝕄)
      = iprop((∃ d, owns (c : Thread nD τ) carryM fullShare d) ∗ (∃ r, prngReg c r)) := by
  unfold Pipeline.ΦA; rw [scopedRest0_eq]; simp only [carryM, owns_whole]; try rfl

end Cert.KernelIdeal.Run

end
-- ==== Proof.Body.lean ====
module

public import proofs.«01_k».proof.Proof.Points
public import Idealize.ShloMosaic.Lib.Pipeline.ValueKit
public import Idealize.ShloMosaic.Lib.VecWindow

@[expose] public section

set_option maxRecDepth 16384

noncomputable section

/-! What the body computes at one point, over any contents of its buffers. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The one word of the scale block. -/
abbrev word (x0 : Vec F S1 .f32) : Elt F .f32 := x0 (fun a => ⟨0, by fin_cases a; decide⟩)

/-- The block of log probabilities. -/
def lpBlock (x0 : Vec F S1 .f32) (x1 : Vec F S1x512x64 .f32) (x2 : Vec F S1x512x1 .f32) (x3 : Vec F S1024x64 .f32) :
    Vec F S1x512x1024 .f32 :=
  k0_pay9 (k0_pay2 x2) (k0_pay5 x1 x3 (word x0)) (k0_pay7 x1 x3 (word x0)) (k0_pay8 x1 x3 (word x0))

/-- The block of indices. -/
def ixBlock (x1 : Vec F S1x512x64 .f32) (x3 : Vec F S1024x64 .f32) : Vec F S1x512x1 .i32 :=
  k0_pay11 (k0_pay4 x1 x3)

/-- The point's contribution to the accumulator, given the row `y` carried from the point before. -/
def part (i : grid0.Coords) (x1 : Vec F S1x512x64 .f32) (x2 : Vec F S1x512x1 .f32) (x3 : Vec F S1024x64 .f32)
    (y : Vec F S1x64 .f32) : Vec F S1x128 .f32 :=
  k0_pay15 (BitVec.ofNat 32 (i 1).val) (k0_pay2 x2) (k0_pay3 x1) (k0_pay12 (k0_pay2 x2) (k0_pay4 x1 x3))
    (k0_pay13 (k0_pay2 x2) (k0_pay3 x1)) y

/-- The row the point hands to the next one: the last row of its normalized block. -/
def lastRow (x1 : Vec F S1x512x64 .f32) : Vec F S1x64 .f32 := k0_pay14 (k0_pay3 x1)

/-- The rectangle of the scratch buffer the row is kept in. -/
abbrev rowRect : Rect S8x128 := Rect.unit (s := S8x128) ![0, 0] S1x64.size inb_S8x128_S1x64_0_0

/-- A block of one word has one index. -/
theorem word_at (x0 : Vec F S1 .f32) (y : S1.Idx) : x0 y = word x0 :=
  congrArg x0 (funext fun a => Fin.ext (by
    have h := (y a).isLt
    have e : S1.size a = 1 := by fin_cases a; rfl
    show (y a).val = 0
    omega))

/-- Reading the kept row after it is stored gives what was stored. -/
theorem row_stored (v : View sig .tc .vmem S8x128 .f32) (f : v.ty.Contents (Elt F)) (w : Vec F S1x64 .f32) :
    View.ld (v.read (Elt F) (v.writes (Elt F) f [⟨rowRect, w⟩])) rowRect = w := by
  funext x
  exact View.read_writes_cons_emb v f rowRect w [] x

set_option maxHeartbeats 1000000 in
/-- The body at the point that starts the accumulator: the log probabilities, the indices and the point's contribution
    are stored, and the scratch buffer keeps the block's last row. -/
theorem body_first (c : Dev nD) (i : grid0.Coords) (arg2 : Memref sig .tc .smem S1 .f32) (harg2 : arg2.IsWhole) (arg3 : Memref sig .tc .vmem S1x512x64 .f32) (harg3 : arg3.IsWhole) (arg4 : Memref sig .tc .vmem S1x512x1 .f32) (harg4 : arg4.IsWhole)
    (arg5 : Memref sig .tc .vmem S1024x64 .f32) (harg5 : arg5.IsWhole) (arg6 : Memref sig .tc .vmem S1x512x1024 .f32) (harg6 : arg6.IsWhole) (arg7 : Memref sig .tc .vmem S1x512x1 .i32) (harg7 : arg7.IsWhole)
    (arg8 : Memref sig .tc .vmem S1x128 .f32) (harg8 : arg8.IsWhole) (arg9 : Memref sig .tc .vmem S8x128 .f32) (harg9 : arg9.IsWhole)
    (hc1 : k0_cond1 i = 1#1) (hc2 : ¬ k0_cond2 i = 1#1)
    (x0 : Vec F S1 .f32) (x1 : Vec F S1x512x64 .f32) (x2 : Vec F S1x512x1 .f32) (x3 : Vec F S1024x64 .f32) (xs : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (lpBlock x0 x1 x2 x3) ∗ owns (c : Thread nD τ) arg7 fullShare (ixBlock x1 x3)
            ∗ owns (c : Thread nD τ) arg8 fullShare (part i x1 x2 x3 (View.ld xs rowRect))
            ∗ (∃ d, owns (c : Thread nD τ) arg9 fullShare d ∗ ⌜View.ld d rowRect = lastRow x1⌝)) -∗ K ⟨⟩))
      ⊢ wp frame (wpE (defs₀ (F := F)) Variants.none c none) E (cc0__vq_body i arg2 harg2 arg3 harg3 arg4 harg4 arg5 harg5 arg6 harg6 arg7 harg7 arg8 harg8 arg9 harg9) K := by
  simp only [cc0__vq_body_eq_skeleton]; unfold cc0__vq_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3; obtain rfl := harg9.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap
    · iexact H4
    ipureintro
    unfold lpBlock
    frame_out
    refine (View.read_writes_full _ _ _ _ _).trans ?_
    try simp only [View.ld, word_at]
  isplitl [H5]
  · iexists _; isplitr; swap
    · iexact H5
    ipureintro
    unfold ixBlock
    frame_out
    refine (View.read_writes_full _ _ _ _ _).trans ?_
    try simp only [View.ld, word_at]
  isplitl [H6]
  · iexists _; isplitr; swap
    · iexact H6
    ipureintro
    unfold part
    frame_out
    refine (View.read_writes_full _ _ _ _ _).trans ?_
    try simp only [View.ld, word_at]
  iexists _
  isplitl [HS]
  · iexists _; isplitr; swap
    · iexact HS
    ipureintro; rfl
  ipureintro
  unfold lastRow
  frame_out
  exact row_stored _ _ _

set_option maxHeartbeats 1000000 in
/-- The body at a later point: as at the first, but the contribution is added to what the accumulator held. -/
theorem body_later (c : Dev nD) (i : grid0.Coords) (arg2 : Memref sig .tc .smem S1 .f32) (harg2 : arg2.IsWhole) (arg3 : Memref sig .tc .vmem S1x512x64 .f32) (harg3 : arg3.IsWhole) (arg4 : Memref sig .tc .vmem S1x512x1 .f32) (harg4 : arg4.IsWhole)
    (arg5 : Memref sig .tc .vmem S1024x64 .f32) (harg5 : arg5.IsWhole) (arg6 : Memref sig .tc .vmem S1x512x1024 .f32) (harg6 : arg6.IsWhole) (arg7 : Memref sig .tc .vmem S1x512x1 .i32) (harg7 : arg7.IsWhole)
    (arg8 : Memref sig .tc .vmem S1x128 .f32) (harg8 : arg8.IsWhole) (arg9 : Memref sig .tc .vmem S8x128 .f32) (harg9 : arg9.IsWhole)
    (hc1 : ¬ k0_cond1 i = 1#1) (hc2 : k0_cond2 i = 1#1)
    (x0 : Vec F S1 .f32) (x1 : Vec F S1x512x64 .f32) (x2 : Vec F S1x512x1 .f32) (x3 : Vec F S1024x64 .f32) (xa : Vec F S1x128 .f32) (xs : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare xa ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (lpBlock x0 x1 x2 x3) ∗ owns (c : Thread nD τ) arg7 fullShare (ixBlock x1 x3)
            ∗ owns (c : Thread nD τ) arg8 fullShare (k0_pay1 (part i x1 x2 x3 (View.ld xs rowRect)) xa)
            ∗ (∃ d, owns (c : Thread nD τ) arg9 fullShare d ∗ ⌜View.ld d rowRect = lastRow x1⌝)) -∗ K ⟨⟩))
      ⊢ wp frame (wpE (defs₀ (F := F)) Variants.none c none) E (cc0__vq_body i arg2 harg2 arg3 harg3 arg4 harg4 arg5 harg5 arg6 harg6 arg7 harg7 arg8 harg8 arg9 harg9) K := by
  simp only [cc0__vq_body_eq_skeleton]; unfold cc0__vq_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg9.eq_unread hfs
  obtain rfl := harg8.eq_unread hf6
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap
    · iexact H4
    ipureintro
    unfold lpBlock
    frame_out
    refine (View.read_writes_full _ _ _ _ _).trans ?_
    try simp only [View.ld, word_at]
  isplitl [H5]
  · iexists _; isplitr; swap
    · iexact H5
    ipureintro
    unfold ixBlock
    frame_out
    refine (View.read_writes_full _ _ _ _ _).trans ?_
    try simp only [View.ld, word_at]
  isplitl [H6]
  · iexists _; isplitr; swap
    · iexact H6
    ipureintro
    unfold part
    frame_out
    refine (View.read_writes_full _ _ _ _ _).trans ?_
    try simp only [View.ld, word_at]
  iexists _
  isplitl [HS]
  · iexists _; isplitr; swap
    · iexact HS
    ipureintro; rfl
  ipureintro
  unfold lastRow
  frame_out
  exact row_stored _ _ _

end Cert.KernelIdeal.Run

end
-- ==== Proof.Run.lean ====
module

public import proofs.«01_k».proof.Proof.Body
public import Idealize.ShloMosaic.Lib.Claim

@[expose] public section

set_option maxRecDepth 16384

noncomputable section

/-! The whole launch: what every staging buffer holds after every point, that the body keeps to it, and the run of the
    program from any memory with every semaphore at zero. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row carried into a point: the last row of the block before it. The first point is given its own last row; it
    doesn't use it. -/
def carried (c : Dev nD) (n : ℕ) (h : n < cfg0.N) : Vec F S1x64 .f32 :=
  lastRow (iblk m c 1 ⟨n - 1, by omega⟩)

/-- The contribution of point `n`. -/
def partAt (c : Dev nD) (n : ℕ) (h : n < cfg0.N) : Vec F S1x128 .f32 :=
  part (grid0.coords ⟨n, h⟩) (iblk m c 1 ⟨n, h⟩) (iblk m c 2 ⟨n, h⟩) (iblk m c 3 ⟨n, h⟩) (carried m c n h)

/-- The accumulator after point `n`. -/
def accSum (c : Dev nD) : (n : ℕ) → n < cfg0.N → Vec F S1x128 .f32
  | 0, h => partAt m c 0 h
  | n + 1, h => k0_pay1 (partAt m c (n + 1) h) (accSum c n (by omega))

/-- At the first block of a batch entry the carried row is not used. -/
theorem part_start (i : grid0.Coords) (hi : (i 1).val = 0) (x1 : Vec F S1x512x64 .f32) (x2 : Vec F S1x512x1 .f32)
    (x3 : Vec F S1024x64 .f32) (y y' : Vec F S1x64 .f32) : part i x1 x2 x3 y = part i x1 x2 x3 y' := by
  unfold part k0_pay15
  rw [hi]
  rfl

/-- The first point is the first block of its batch entry. -/
theorem first_block : ∀ t : Fin cfg0.N, t.val = 0 → (grid0.coords t 1).val = 0 :=
  (by decide +kernel : ∀ t : Fin grid0.N, t.val = 0 → (grid0.coords t 1).val = 0)

/-- Between points: at the start the region's share as the launch hands it over; after a point the scratch buffer at
    contents whose kept row is the point's last row, and the generator register. -/
def Kept (c : Dev nD) : (n : ℕ) → n ≤ cfg0.N → sProp 𝕄
  | 0, _ => Pipeline.ΦA spec0 c
  | n + 1, hn => iprop((∃ d, owns (c : Thread nD τ) carryM fullShare d ∗ ⌜View.ld d rowRect = lastRow (iblk m c 1 ⟨n, hn⟩)⌝)
      ∗ (∃ r, prngReg c r))

/-- Before the first point. -/
theorem Kept_zero (c : Dev nD) (n : ℕ) (h : n ≤ cfg0.N) (hz : n = 0) : Kept m c n h = Pipeline.ΦA spec0 c := by
  subst hz; rfl

/-- After a point. -/
theorem Kept_succ (c : Dev nD) (n : ℕ) (hn : n < cfg0.N) :
    Kept m c (n + 1) hn = iprop((∃ d, owns (c : Thread nD τ) carryM fullShare d ∗ ⌜View.ld d rowRect = lastRow (iblk m c 1 ⟨n, hn⟩)⌝)
      ∗ (∃ r, prngReg c r)) := rfl

/-- Before a later point, the row is the one carried into it. -/
theorem Kept_later (c : Dev nD) (n : ℕ) (h : n < cfg0.N) (hz : n ≠ 0) :
    Kept m c n (Nat.le_of_lt h) = iprop((∃ d, owns (c : Thread nD τ) carryM fullShare d ∗ ⌜View.ld d rowRect = carried m c n h⌝)
      ∗ (∃ r, prngReg c r)) := by
  cases n with
  | zero => exact absurd rfl hz
  | succ n => rfl

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lpBlock (iblk m c 0 t) (iblk m c 1 t) (iblk m c 2 t) (iblk m c 3 t)
    | ⟨5, _⟩ => ixBlock (iblk m c 1 t) (iblk m c 3 t)
    | ⟨6, _⟩ => accSum m c t.val t.isLt
  Φ t := Kept m c t.val (Nat.le_of_lt_succ t.isLt)
  q _ := fullShare
  owed _ := 0

/-- The arrays start as the region finds them. -/
theorem A_eq (c : Dev nD) (w : Fin cfg0.W) : (dats m 0 c).A w = V m c (Pipeline.arrRef spec0 w) := by
  dsimp only [dats]

/-- The invariant before a point. -/
theorem Kept_castSucc (c : Dev nD) (t : Fin cfg0.N) :
    (dats m 0 c).Φ t.castSucc = Kept m c t.val (Nat.le_of_lt t.isLt) := by
  dsimp only [dats]; exact Pipeline.Dat.Φ_castSucc (Kept m c) t

/-- What each window's buffer holds after a point. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t
    = lpBlock (iblk m c 0 t) (iblk m c 1 t) (iblk m c 2 t) (iblk m c 3 t) := by dsimp only [dats]
theorem after_5 (c : Dev nD) (t : Fin cfg0.N) : (dats m 0 c).after 5 t = ixBlock (iblk m c 1 t) (iblk m c 3 t) := by dsimp only [dats]
theorem after_6 (c : Dev nD) (t : Fin cfg0.N) : (dats m 0 c).after 6 t = accSum m c t.val t.isLt := by dsimp only [dats]

/-- An input's buffer holds its block when the body starts. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later point the accumulator's buffer holds the sum so far. -/
theorem before_6 (c : Dev nD) (t : Fin cfg0.N) (h : 1 ≤ t.val) (d) :
    (dats m 0 c).before 6 t d = accSum m c (t.val - 1) (Nat.lt_of_le_of_lt (Nat.sub_le _ _) t.isLt) := by
  rw [Dat.before_out_traj _ 6 rfl (fun _ _ => rfl)
      (fun t' _ hi _ => absurd ((acc_live t').symm.trans hi) Bool.false_ne_true) t.val t rfl d,
    if_neg (by rw [acc_kept t h]; exact Bool.false_ne_true)]
  dsimp only [dats]

/-- What each window's buffer is handed back at. -/
theorem leaves_0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (stg4 t) fullShare (lpBlock (iblk m c 0 t) (iblk m c 1 t) (iblk m c 2 t) (iblk m c 3 t)) := by
  unfold Dat.leavesExact; rw [show cfg0.idle 4 (grid0.coords t) = false from rfl, after_4]
theorem leaves_5 (c : Dev nD) (t : Fin cfg0.N) : (dats m 0 c).leavesExact 5 t = owns (c : Thread nD τ) (stg5 t) fullShare (ixBlock (iblk m c 1 t) (iblk m c 3 t)) := by
  unfold Dat.leavesExact; rw [show cfg0.idle 5 (grid0.coords t) = false from rfl, after_5]
theorem leaves_6 (c : Dev nD) (t : Fin cfg0.N) : (dats m 0 c).leavesExact 6 t = owns (c : Thread nD τ) (stg6 t) fullShare (accSum m c t.val t.isLt) := by
  unfold Dat.leavesExact; rw [acc_live t, after_6]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- The accumulator after the first point, whatever row the scratch buffer held. -/
theorem accSum_first (c : Dev nD) (t : Fin cfg0.N) (h : t.val = 0) (y : Vec F S1x64 .f32) :
    part (grid0.coords t) (iblk m c 1 t) (iblk m c 2 t) (iblk m c 3 t) y = accSum m c t.val t.isLt := by
  obtain ⟨n, hn⟩ := t
  obtain rfl : n = 0 := h
  exact part_start _ (first_block _ rfl) _ _ _ _ _

/-- The accumulator after a later point. -/
theorem accSum_later (c : Dev nD) (t : Fin cfg0.N) (h : t.val ≠ 0) (y : Vec F S1x64 .f32)
    (hy : y = carried m c t.val t.isLt) :
    k0_pay1 (part (grid0.coords t) (iblk m c 1 t) (iblk m c 2 t) (iblk m c 3 t) y)
        (accSum m c (t.val - 1) (Nat.lt_of_le_of_lt (Nat.sub_le _ _) t.isLt)) = accSum m c t.val t.isLt := by
  obtain ⟨n, hn⟩ := t
  subst hy
  cases n with
  | zero => exact absurd rfl h
  | succ n => rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = Kept m c (t.val + 1) t.isLt from rfl, Kept_succ]
  rw [leaves_0, leaves_1, leaves_2, leaves_3, leaves_4, leaves_5, leaves_6]
  by_cases hz : t.val = 0
  · rw [Kept_castSucc m c t, Kept_zero m c _ _ hz, rest_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ ((starts_iff t).mpr hz)
      (fun h => by have := (adds_iff t).mp h; omega) (iblk m c 0 t) (iblk m c 1 t) (iblk m c 2 t) (iblk m c 3 t) ds Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    rw [accSum_first m c t hz]
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h1 : 1 ≤ t.val := by omega
    rw [Kept_castSucc m c t, Kept_later m c _ t.isLt hz]
    simp only [before_6 m c t h1]
    iintro ⟨⟨⟨%ds, HS, %hs⟩, Hg⟩, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ _ _ (fun h => hz ((starts_iff t).mp h))
      ((adds_iff t).mpr h1) (iblk m c 0 t) (iblk m c 1 t) (iblk m c 2 t) (iblk m c 3 t)
      (accSum m c (t.val - 1) (Nat.lt_of_le_of_lt (Nat.sub_le _ _) t.isLt)) ds Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS]; · iexact HS
    rw [accSum_later m c t hz _ hs]
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point is the body on the point's buffers. -/
theorem row_is_body (t : Fin cfg0.N) :
    defs₀ (F := F) .tc cfg0.body (cfg0.bodyArgs t (cfg0.slots t)) = bodyAt0 t := by
  unfold defs₀; rw [Defs.onTc_tc]

/-- The body keeps to the proof data at every point. -/
theorem keeps (c : Dev nD) : BodyObligation (dats (F := F) m 0 c) (defs₀ (F := F)) Variants.none () Set.univ := fun t => by
  rw [bigSep_W0, bigSep_W0, row_is_body]
  exact triple_restated (sound_body m c t) rfl .rfl fun _ => .rfl

/-- What the launch hands over is the invariant before the first point. -/
theorem enters (c : Dev nD) : Pipeline.ΦA spec0 c ⊢ (dats m 0 c).Φ 0 := by
  rw [show (dats m 0 c).Φ 0 = Kept m c 0 (Nat.zero_le _) from rfl, Kept_zero m c 0 _ rfl]
  try exact Idealize.SL.BI.Entails.refl _

/-- After the last point the share goes back to the launch. -/
theorem leaves (c : Dev nD) : (dats m 0 c).Φ (Fin.last cfg0.N) ⊢ Pipeline.ΦA spec0 c := by
  rw [show (dats m 0 c).Φ (Fin.last cfg0.N) = Kept m c (31 + 1) (by decide) from rfl, Kept_succ, rest_eq]
  iintro ⟨⟨%ds, HS, %hs⟩, Hg⟩
  isplitl [HS]
  · iexists _; iexact HS
  iexact Hg

set_option backward.isDefEq.respectTransparency.types false in
set_option maxHeartbeats 800000 in
/-- The program's run from any memory with zero counters: every fair execution ends, every array of the pipeline holds
    what the proof data says, every other buffer what the lines after the region leave, and every counter is zero. -/
theorem run_full : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (keeps m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leaves m)

/-- The same without the counters. -/
theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_full m ρ)

/-- The arguments end as they began and every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ))
    ((θ_run defs _ _).mono (fun _ h => h.2) (run_full m ρ))

end Cert.KernelIdeal.Run

end
-- ==== Proof.RefRun.lean ====
module

public import proofs.«01_k».proof.ReferenceIdeal
public import proofs.«01_k».proof.Proof.Gen.ReferenceIdeal
public import Idealize.ShloMosaic.Lib.StableHlo.RunHlo
public import Idealize.ShloMosaic.Lib.Quiescent

@[expose] public section

set_option maxRecDepth 16384

noncomputable section

/-! The reference's run: its operations in nine groups, what each group leaves in the buffers the later ones read, and
    the run from any memory with every semaphore at zero. -/

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The codebook without its first row. -/
def rBook (e : Vec F S1025x64 .f32) : Vec F S1024x64 .f32 :=
  (extractStridedSlice S1024x64 ![1, 0] e slices_S1025x64_S1024x64_1_0)

/-- The input, each row divided by its norm or by the small constant if that is larger. -/
def rZn (z : Vec F S8x2048x64 .f32) : Vec F S8x2048x64 .f32 :=
  (Host.divf z (broadcastInDim S8x2048x64 ![0, 1, 2] bcast_S8x2048x1_S8x2048x64_0_1_2 (maximumf (Host.sqrt (broadcastInDim S8x2048x1 ![0, 1] bcast_S8x2048_S8x2048x1_0_1 (Host.reduceAdd (mulf z z) (constant S_ .f32 0x00000000#32) reducesTo_S8x2048x64_S8x2048_d2 h_S_))) (broadcastInDim S8x2048x1 ![] bcast_S_S8x2048x1 (constant S_ .f32 0x2B8CBCCC#32)))))

/-- The squared distance of every row to every codebook row, expanded. -/
def rDist (zn : Vec F S8x2048x64 .f32) (e : Vec F S1024x64 .f32) : Vec F S16384x1024 .f32 :=
  (addf (subf (broadcastInDim S16384x1024 ![0, 1] bcast_S16384x1_S16384x1024_0_1 (broadcastInDim S16384x1 ![0] bcast_S16384_S16384x1_0 (Host.reduceAdd (mulf (shapeCast S16384x64 zn shapeCasts_S8x2048x64_S16384x64) (shapeCast S16384x64 zn shapeCasts_S8x2048x64_S16384x64)) (constant S_ .f32 0x00000000#32) reducesTo_S16384x64_S16384_d1 h_S_))) (mulf (broadcastInDim S16384x1024 ![] bcast_S_S16384x1024 (constant S_ .f32 0x40000000#32)) (Host.dotGeneral dot_S16384x64_S64x1024_S16384x1024_1_0_0_1_n_n none (shapeCast S16384x64 zn shapeCasts_S8x2048x64_S16384x64) (transpose S64x1024 [1, 0] e transposes_S1024x64_S64x1024_1_0)))) (broadcastInDim S16384x1024 ![0, 1] bcast_S1x1024_S16384x1024_0_1 (broadcastInDim S1x1024 ![1] bcast_S1024_S1x1024_1 (Host.reduceAdd (mulf e e) (constant S_ .f32 0x00000000#32) reducesTo_S1024x64_S1024_d1 h_S_))))

/-- The logits: minus the distance, divided by the temperature. -/
def rLogits (d : Vec F S16384x1024 .f32) (n : Vec F S_ .i32) : Vec F S8x2048x1024 .f32 :=
  (Host.divf (Host.negf (shapeCast S8x2048x1024 d shapeCasts_S16384x1024_S8x2048x1024)) (broadcastInDim S8x2048x1024 ![] bcast_S_S8x2048x1024 (Host.divf (constant S_ .f32 0x3F800000#32) (sitofp .f32 n))))

/-- The logits, each row less its maximum. -/
def rShift (l : Vec F S8x2048x1024 .f32) : Vec F S8x2048x1024 .f32 :=
  (subf l (broadcastInDim S8x2048x1024 ![0, 1, 2] bcast_S8x2048x1_S8x2048x1024_0_1_2 (broadcastInDim S8x2048x1 ![0, 1] bcast_S8x2048_S8x2048x1_0_1 (maximumf (broadcastInDim S8x2048 ![] bcast_S_S8x2048 (constant S_ .f32 0xFF800000#32)) (Host.reduce FloatOps.maximumf l (constant S_ .f32 0xFF800000#32) reducesTo_S8x2048x1024_S8x2048_d2 h_S_)))))

/-- The log-softmax, from the shifted logits. -/
def rLsm (l : Vec F S8x2048x1024 .f32) : Vec F S8x2048x1024 .f32 :=
  (subf l (broadcastInDim S8x2048x1024 ![0, 1, 2] bcast_S8x2048x1_S8x2048x1024_0_1_2 (Host.log (broadcastInDim S8x2048x1 ![0, 1] bcast_S8x2048_S8x2048x1_0_1 (Host.reduceAdd (Host.exp l) (constant S_ .f32 0x00000000#32) reducesTo_S8x2048x1024_S8x2048_d2 h_S_)))))

/-- The log probabilities where the mask is one, and a large negative number where it is zero. -/
def rLp (l : Vec F S8x2048x1024 .f32) (k : Vec F S8x2048x1 .f32) : Vec F S8x2048x1024 .f32 :=
  (addf (mulf l (broadcastInDim S8x2048x1024 ![0, 1, 2] bcast_S8x2048x1_S8x2048x1024_0_1_2 k)) (broadcastInDim S8x2048x1024 ![0, 1, 2] bcast_S8x2048x1_S8x2048x1024_0_1_2 (mulf (subf (broadcastInDim S8x2048x1 ![] bcast_S_S8x2048x1 (constant S_ .f32 0x3F800000#32)) k) (broadcastInDim S8x2048x1 ![] bcast_S_S8x2048x1 (constant S_ .f32 0xCE6E6B28#32)))))

/-- The index of the nearest codebook row. -/
def rIdx (d : Vec F S16384x1024 .f32) : Vec F S16384 .i32 :=
  (fun j => (Host.argReduce reducer_argmin_f32_i32 d (iotaInDim S16384x1024 32 1) (constant S_ .f32 0x7F800000#32) (constantI S_ 32 0#32) reducesTo_S16384x1024_S16384_d1 h_S_ j).2)

/-- The nearest codebook rows, as a one-hot matrix times the codebook. -/
def rZq (i : Vec F S16384 .i32) (e : Vec F S1024x64 .f32) : Vec F S8x2048x64 .f32 :=
  (shapeCast S8x2048x64 (Host.dotGeneral dot_S16384x1024_S1024x64_S16384x64_1_0_0_1_n_n none (Host.scatter scatter_S16384x1024_S16384x2_S16384_n_01_01_1 (fun _ b => b) (broadcastInDim S16384x1024 ![] bcast_S_S16384x1024 (constant S_ .f32 0x00000000#32)) (concatenate S16384x2 1 [⟨S16384x1, (broadcastInDim S16384x1 ![0] bcast_S16384_S16384x1_0 (select (cmpi .slt (iotaInDim S16384 32 0) (broadcastInDim S16384 ![] bcast_S_S16384 (constantI S_ 32 0#32))) (addi (iotaInDim S16384 32 0) (broadcastInDim S16384 ![] bcast_S_S16384 (constantI S_ 32 16384#32))) (iotaInDim S16384 32 0)))⟩, ⟨S16384x1, (broadcastInDim S16384x1 ![0] bcast_S16384_S16384x1_0 (select (cmpi .slt i (broadcastInDim S16384 ![] bcast_S_S16384 (constantI S_ 32 0#32))) (addi i (broadcastInDim S16384 ![] bcast_S_S16384 (constantI S_ 32 1024#32))) i))⟩] concatenates_S16384x1_S16384x1_S16384x2_d1) (broadcastInDim S16384 ![] bcast_S_S16384 (constant S_ .f32 0x3F800000#32))) e) shapeCasts_S16384x64_S8x2048x64)

/-- The commitment loss. -/
def rCommit (zn : Vec F S8x2048x64 .f32) (q : Vec F S8x2048x64 .f32) (k : Vec F S8x2048x1 .f32) : Vec F S_ .f32 :=
  (Host.divf (Host.reduceAdd (mulf (mulf (subf zn (mulf q (broadcastInDim S8x2048x64 ![0, 1, 2] bcast_S8x2048x1_S8x2048x64_0_1_2 k))) (subf zn (mulf q (broadcastInDim S8x2048x64 ![0, 1, 2] bcast_S8x2048x1_S8x2048x64_0_1_2 k)))) (broadcastInDim S8x2048x64 ![0, 1, 2] bcast_S8x2048x1_S8x2048x64_0_1_2 k)) (constant S_ .f32 0x00000000#32) reducesTo_S8x2048x64_S_d0_1_2 h_S_) (mulf (Host.reduceAdd k (constant S_ .f32 0x00000000#32) reducesTo_S8x2048x1_S_d0_1_2 h_S_) (constant S_ .f32 0x42800000#32)))

/-- The smoothness loss. -/
def rSmooth (zn : Vec F S8x2048x64 .f32) (k : Vec F S8x2048x1 .f32) : Vec F S_ .f32 :=
  (Host.divf (Host.reduceAdd (mulf (mulf (subf (extractStridedSlice S8x2047x64 ![0, 0, 0] zn slices_S8x2048x64_S8x2047x64_0_0_0) (extractStridedSlice S8x2047x64 ![0, 1, 0] zn slices_S8x2048x64_S8x2047x64_0_1_0)) (subf (extractStridedSlice S8x2047x64 ![0, 0, 0] zn slices_S8x2048x64_S8x2047x64_0_0_0) (extractStridedSlice S8x2047x64 ![0, 1, 0] zn slices_S8x2048x64_S8x2047x64_0_1_0))) (broadcastInDim S8x2047x64 ![0, 1, 2] bcast_S8x2047x1_S8x2047x64_0_1_2 (extractStridedSlice S8x2047x1 ![0, 1, 0] k slices_S8x2048x1_S8x2047x1_0_1_0))) (constant S_ .f32 0x00000000#32) reducesTo_S8x2047x64_S_d0_1_2 h_S_) (mulf (Host.reduceAdd k (constant S_ .f32 0x00000000#32) reducesTo_S8x2048x1_S_d0_1_2 h_S_) (constant S_ .f32 0x42800000#32)))

/-- The codebook rows in use, and the normalized input. -/
abbrev opsA : List (HloOp τ sig (Elt F)) :=
  [ unary main_arg2 main_v0 (extractStridedSlice S1024x64 ![1, 0] · slices_S1025x64_S1024x64_1_0),
    TRef.binary (TRef.of main_arg0 : TRef sig ⟨S8x2048x64, .f32⟩) (TRef.of main_arg0 : TRef sig ⟨S8x2048x64, .f32⟩) main_call0.v0 mulf,
    TRef.nullary main_call0.cst (constant S_ .f32 0x00000000#32),
    TRef.binary main_call0.v0 main_call0.cst main_call0.v1 (fun x v => Host.reduceAdd x v reducesTo_S8x2048x64_S8x2048_d2 h_S_),
    TRef.unary main_call0.v1 main_call0.v2 (broadcastInDim S8x2048x1 ![0, 1] bcast_S8x2048_S8x2048x1_0_1),
    TRef.unary main_call0.v2 main_call0.v3 Host.sqrt,
    nullary main_cst (constant S_ .f32 0x2B8CBCCC#32),
    unary main_cst main_v2 (broadcastInDim S8x2048x1 ![] bcast_S_S8x2048x1),
    binary main_v1 main_v2 main_v3 (maximumf),
    unary main_v3 main_v4 (broadcastInDim S8x2048x64 ![0, 1, 2] bcast_S8x2048x1_S8x2048x64_0_1_2),
    binary main_arg0 main_v4 main_v5 (Host.divf) ]

/-- The squared distances of every row to every codebook row. -/
abbrev opsB : List (HloOp τ sig (Elt F)) :=
  [ reshape main_v5 main_v6 rfl shapeCasts_S8x2048x64_S16384x64,
    binary main_v6 main_v6 main_v7 (mulf),
    nullary main_cst_0 (constant S_ .f32 0x00000000#32),
    binary main_v7 main_cst_0 main_v8 (fun x v => Host.reduceAdd x v reducesTo_S16384x64_S16384_d1 h_S_),
    unary main_v8 main_v9 (broadcastInDim S16384x1 ![0] bcast_S16384_S16384x1_0),
    unary main_v0 main_v10 (transpose S64x1024 [1, 0] · transposes_S1024x64_S64x1024_1_0),
    binary main_v6 main_v10 main_v11 (fun l r => Host.dotGeneral dot_S16384x64_S64x1024_S16384x1024_1_0_0_1_n_n none l r),
    nullary main_cst_1 (constant S_ .f32 0x40000000#32),
    unary main_cst_1 main_v12 (broadcastInDim S16384x1024 ![] bcast_S_S16384x1024),
    binary main_v12 main_v11 main_v13 (mulf),
    unary main_v9 main_v14 (broadcastInDim S16384x1024 ![0, 1] bcast_S16384x1_S16384x1024_0_1),
    binary main_v14 main_v13 main_v15 (subf),
    binary main_v0 main_v0 main_v16 (mulf),
    nullary main_cst_2 (constant S_ .f32 0x00000000#32),
    binary main_v16 main_cst_2 main_v17 (fun x v => Host.reduceAdd x v reducesTo_S1024x64_S1024_d1 h_S_),
    unary main_v17 main_v18 (broadcastInDim S1x1024 ![1] bcast_S1024_S1x1024_1),
    unary main_v18 main_v19 (broadcastInDim S16384x1024 ![0, 1] bcast_S1x1024_S16384x1024_0_1),
    binary main_v15 main_v19 main_v20 (addf) ]

/-- The logits. -/
abbrev opsC : List (HloOp τ sig (Elt F)) :=
  [ reshape main_v20 main_v21 rfl shapeCasts_S16384x1024_S8x2048x1024,
    unary main_v21 main_v22 (Host.negf),
    unary main_arg3 main_v23 (sitofp .f32),
    nullary main_cst_3 (constant S_ .f32 0x3F800000#32),
    binary main_cst_3 main_v23 main_v24 (Host.divf),
    unary main_v24 main_v25 (id),
    unary main_v25 main_v26 (broadcastInDim S8x2048x1024 ![] bcast_S_S8x2048x1024),
    binary main_v22 main_v26 main_v27 (Host.divf) ]

/-- The logits less their maximum. -/
abbrev opsD : List (HloOp τ sig (Elt F)) :=
  [ TRef.nullary main_call1.cst (constant S_ .f32 0xFF800000#32),
    TRef.binary (TRef.of main_v27 : TRef sig ⟨S8x2048x1024, .f32⟩) main_call1.cst main_call1.v0 (fun x v => Host.reduce FloatOps.maximumf x v reducesTo_S8x2048x1024_S8x2048_d2 h_S_),
    TRef.nullary main_call1.cst_0 (constant S_ .f32 0xFF800000#32),
    TRef.unary main_call1.cst_0 main_call1.v1 (broadcastInDim S8x2048 ![] bcast_S_S8x2048),
    TRef.binary main_call1.v1 main_call1.v0 main_call1.v2 maximumf,
    TRef.unary main_call1.v2 main_call1.v3 (broadcastInDim S8x2048x1 ![0, 1] bcast_S8x2048_S8x2048x1_0_1),
    TRef.unary main_call1.v3 main_call1.v4 (broadcastInDim S8x2048x1024 ![0, 1, 2] bcast_S8x2048x1_S8x2048x1024_0_1_2),
    TRef.binary (TRef.of main_v27 : TRef sig ⟨S8x2048x1024, .f32⟩) main_call1.v4 main_call1.v5 subf ]

/-- The log-softmax, from the shifted logits. -/
abbrev opsL : List (HloOp τ sig (Elt F)) :=
  [ TRef.unary main_call1.v5 main_call1.v6 Host.exp,
    TRef.nullary main_call1.cst_1 (constant S_ .f32 0x00000000#32),
    TRef.binary main_call1.v6 main_call1.cst_1 main_call1.v7 (fun x v => Host.reduceAdd x v reducesTo_S8x2048x1024_S8x2048_d2 h_S_),
    TRef.unary main_call1.v7 main_call1.v8 (broadcastInDim S8x2048x1 ![0, 1] bcast_S8x2048_S8x2048x1_0_1),
    TRef.unary main_call1.v8 main_call1.v9 Host.log,
    TRef.unary main_call1.v9 main_call1.v10 (broadcastInDim S8x2048x1024 ![0, 1, 2] bcast_S8x2048x1_S8x2048x1024_0_1_2),
    TRef.binary main_call1.v5 main_call1.v10 main_call1.v11 subf ]

/-- The masked log probabilities. -/
abbrev opsM : List (HloOp τ sig (Elt F)) :=
  [ unary main_arg1 main_v29 (broadcastInDim S8x2048x1024 ![0, 1, 2] bcast_S8x2048x1_S8x2048x1024_0_1_2),
    binary main_v28 main_v29 main_v30 (mulf),
    nullary main_cst_4 (constant S_ .f32 0x3F800000#32),
    unary main_cst_4 main_v31 (broadcastInDim S8x2048x1 ![] bcast_S_S8x2048x1),
    binary main_v31 main_arg1 main_v32 (subf),
    nullary main_cst_5 (constant S_ .f32 0xCE6E6B28#32),
    unary main_cst_5 main_v33 (broadcastInDim S8x2048x1 ![] bcast_S_S8x2048x1),
    binary main_v32 main_v33 main_v34 (mulf),
    unary main_v34 main_v35 (broadcastInDim S8x2048x1024 ![0, 1, 2] bcast_S8x2048x1_S8x2048x1024_0_1_2),
    binary main_v30 main_v35 main_v36 (addf) ]

/-- The index of the nearest codebook row. -/
abbrev opsE : List (HloOp τ sig (Elt F)) :=
  [ TRef.nullary main_call2.v0 (iotaInDim S16384x1024 32 1),
    TRef.nullary main_call2.cst (constant S_ .f32 0x7F800000#32),
    TRef.nullary main_call2.c (constantI S_ 32 0#32),
    TRef.quaternary (TRef.of main_v20 : TRef sig ⟨S16384x1024, .f32⟩) main_call2.v0 main_call2.cst main_call2.c main_call2.v1_0 (fun x y u v j => (Host.argReduce reducer_argmin_f32_i32 x y u v reducesTo_S16384x1024_S16384_d1 h_S_ j).1),
    TRef.quaternary (TRef.of main_v20 : TRef sig ⟨S16384x1024, .f32⟩) main_call2.v0 main_call2.cst main_call2.c main_call2.v1_1 (fun x y u v j => (Host.argReduce reducer_argmin_f32_i32 x y u v reducesTo_S16384x1024_S16384_d1 h_S_ j).2) ]

/-- The quantized rows: one-hot times codebook. -/
abbrev opsG : List (HloOp τ sig (Elt F)) :=
  [ nullary main_cst_6 (constant S_ .f32 0x00000000#32),
    unary main_cst_6 main_v38 (broadcastInDim S16384x1024 ![] bcast_S_S16384x1024),
    nullary main_v39 (iotaInDim S16384 32 0),
    nullary main_c (constantI S_ 32 0#32),
    unary main_c main_v40 (broadcastInDim S16384 ![] bcast_S_S16384),
    binary main_v39 main_v40 main_v41 (cmpi .slt),
    nullary main_c_7 (constantI S_ 32 16384#32),
    unary main_c_7 main_v42 (broadcastInDim S16384 ![] bcast_S_S16384),
    binary main_v39 main_v42 main_v43 (addi),
    ternary main_v41 main_v43 main_v39 main_v44 (select),
    nullary main_c_8 (constantI S_ 32 0#32),
    unary main_c_8 main_v45 (broadcastInDim S16384 ![] bcast_S_S16384),
    binary main_v37 main_v45 main_v46 (cmpi .slt),
    nullary main_c_9 (constantI S_ 32 1024#32),
    unary main_c_9 main_v47 (broadcastInDim S16384 ![] bcast_S_S16384),
    binary main_v37 main_v47 main_v48 (addi),
    ternary main_v46 main_v48 main_v37 main_v49 (select),
    unary main_v44 main_v50 (broadcastInDim S16384x1 ![0] bcast_S16384_S16384x1_0),
    unary main_v49 main_v51 (broadcastInDim S16384x1 ![0] bcast_S16384_S16384x1_0),
    binary main_v50 main_v51 main_v52 (fun a b => concatenate S16384x2 1 [⟨S16384x1, a⟩, ⟨S16384x1, b⟩] concatenates_S16384x1_S16384x1_S16384x2_d1),
    nullary main_cst_10 (constant S_ .f32 0x3F800000#32),
    unary main_cst_10 main_v53 (broadcastInDim S16384 ![] bcast_S_S16384),
    ternary main_v38 main_v52 main_v53 main_v54 (fun x i u => Host.scatter scatter_S16384x1024_S16384x2_S16384_n_01_01_1 (fun _ b => b) x i u),
    binary main_v54 main_v0 main_v55 (fun l r => Host.dotGeneral dot_S16384x1024_S1024x64_S16384x64_1_0_0_1_n_n none l r),
    reshape main_v55 main_v56 rfl shapeCasts_S16384x64_S8x2048x64 ]

/-- The two losses. -/
abbrev opsH : List (HloOp τ sig (Elt F)) :=
  [ unary main_arg1 main_v57 (broadcastInDim S8x2048x64 ![0, 1, 2] bcast_S8x2048x1_S8x2048x64_0_1_2),
    binary main_v56 main_v57 main_v58 (mulf),
    nullary main_cst_11 (constant S_ .f32 0x00000000#32),
    binary main_arg1 main_cst_11 main_v59 (fun x v => Host.reduceAdd x v reducesTo_S8x2048x1_S_d0_1_2 h_S_),
    nullary main_cst_12 (constant S_ .f32 0x42800000#32),
    binary main_v59 main_cst_12 main_v60 (mulf),
    binary main_v5 main_v58 main_v61 (subf),
    binary main_v61 main_v61 main_v62 (mulf),
    unary main_arg1 main_v63 (broadcastInDim S8x2048x64 ![0, 1, 2] bcast_S8x2048x1_S8x2048x64_0_1_2),
    binary main_v62 main_v63 main_v64 (mulf),
    nullary main_cst_13 (constant S_ .f32 0x00000000#32),
    binary main_v64 main_cst_13 main_v65 (fun x v => Host.reduceAdd x v reducesTo_S8x2048x64_S_d0_1_2 h_S_),
    binary main_v65 main_v60 main_v66 (Host.divf),
    unary main_v5 main_v67 (extractStridedSlice S8x2047x64 ![0, 0, 0] · slices_S8x2048x64_S8x2047x64_0_0_0),
    unary main_v5 main_v68 (extractStridedSlice S8x2047x64 ![0, 1, 0] · slices_S8x2048x64_S8x2047x64_0_1_0),
    binary main_v67 main_v68 main_v69 (subf),
    binary main_v69 main_v69 main_v70 (mulf),
    unary main_arg1 main_v71 (extractStridedSlice S8x2047x1 ![0, 1, 0] · slices_S8x2048x1_S8x2047x1_0_1_0),
    unary main_v71 main_v72 (broadcastInDim S8x2047x64 ![0, 1, 2] bcast_S8x2047x1_S8x2047x64_0_1_2),
    binary main_v70 main_v72 main_v73 (mulf),
    nullary main_cst_14 (constant S_ .f32 0x00000000#32),
    binary main_v73 main_cst_14 main_v74 (fun x v => Host.reduceAdd x v reducesTo_S8x2047x64_S_d0_1_2 h_S_),
    binary main_v74 main_v60 main_v75 (Host.divf) ]

/-- All the operations, in order. -/
abbrev ops : List (HloOp τ sig (Elt F)) := opsA ++ (opsB ++ (opsC ++ (opsD ++ (opsL ++ (opsM ++ (opsE ++ (opsG ++ opsH)))))))

set_option maxRecDepth 200000 in
/-- The program is that line of operations. -/
theorem main_eq (c : Dev nD) : IsSeq (main (F := F) c) ops := by
  hlo_seq

/-- What the group leaves in the buffer of `rBook`. -/
theorem rBook_after (V : Valuation τ sig (Elt F)) : after opsA V (main_v0 : DevRef τ sig) = rBook (V (main_arg2 : DevRef τ sig)) := by
  after_results
  rfl

/-- What the group leaves in the buffer of `rZn`. -/
theorem rZn_after (V : Valuation τ sig (Elt F)) : after opsA V (main_v5 : DevRef τ sig) = rZn (V (main_arg0 : DevRef τ sig)) := by
  after_results
  rfl

/-- What the group leaves in the buffer of `rDist`. -/
theorem rDist_after (V : Valuation τ sig (Elt F)) : after opsB V (main_v20 : DevRef τ sig) = rDist (V (main_v5 : DevRef τ sig)) (V (main_v0 : DevRef τ sig)) := by
  after_results
  rfl

/-- What the group leaves in the buffer of `rLogits`. -/
theorem rLogits_after (V : Valuation τ sig (Elt F)) : after opsC V (main_v27 : DevRef τ sig) = rLogits (V (main_v20 : DevRef τ sig)) (V (main_arg3 : DevRef τ sig)) := by
  after_results
  rfl

/-- What the group of the shifted logits leaves, whatever the operation `f` is that takes the rows' maxima. -/
theorem shift_after (f : Vec F S8x2048x1024 .f32 → Vec F S_ .f32 → Vec F S8x2048 .f32) (V : Valuation τ sig (Elt F)) :
    after
  [ TRef.nullary main_call1.cst (constant S_ .f32 0xFF800000#32),
    TRef.binary (TRef.of main_v27 : TRef sig ⟨S8x2048x1024, .f32⟩) main_call1.cst main_call1.v0 f,
    TRef.nullary main_call1.cst_0 (constant S_ .f32 0xFF800000#32),
    TRef.unary main_call1.cst_0 main_call1.v1 (broadcastInDim S8x2048 ![] bcast_S_S8x2048),
    TRef.binary main_call1.v1 main_call1.v0 main_call1.v2 maximumf,
    TRef.unary main_call1.v2 main_call1.v3 (broadcastInDim S8x2048x1 ![0, 1] bcast_S8x2048_S8x2048x1_0_1),
    TRef.unary main_call1.v3 main_call1.v4 (broadcastInDim S8x2048x1024 ![0, 1, 2] bcast_S8x2048x1_S8x2048x1024_0_1_2),
    TRef.binary (TRef.of main_v27 : TRef sig ⟨S8x2048x1024, .f32⟩) main_call1.v4 main_call1.v5 subf ] V (main_call1_v5 : DevRef τ sig)
      = subf (V (main_v27 : DevRef τ sig)) (broadcastInDim S8x2048x1024 ![0, 1, 2] bcast_S8x2048x1_S8x2048x1024_0_1_2 (broadcastInDim S8x2048x1 ![0, 1] bcast_S8x2048_S8x2048x1_0_1 (maximumf (broadcastInDim S8x2048 ![] bcast_S_S8x2048 (constant S_ .f32 0xFF800000#32)) (f (V (main_v27 : DevRef τ sig)) (constant S_ .f32 0xFF800000#32))))) := by
  after_results
  rfl

/-- What the group leaves in the buffer of `rShift`. -/
theorem rShift_after (V : Valuation τ sig (Elt F)) : after opsD V (main_call1_v5 : DevRef τ sig) = rShift (V (main_v27 : DevRef τ sig)) :=
  shift_after (fun x v => Host.reduce FloatOps.maximumf x v reducesTo_S8x2048x1024_S8x2048_d2 h_S_) V

/-- What the group leaves in the buffer of `rLsm`. -/
theorem rLsm_after (V : Valuation τ sig (Elt F)) : after opsL V (main_v28 : DevRef τ sig) = rLsm (V (main_call1_v5 : DevRef τ sig)) := by
  after_results
  rfl

/-- What the group leaves in the buffer of `rLp`. -/
theorem rLp_after (V : Valuation τ sig (Elt F)) : after opsM V (main_v36 : DevRef τ sig) = rLp (V (main_v28 : DevRef τ sig)) (V (main_arg1 : DevRef τ sig)) := by
  after_results
  rfl

/-- What the group leaves in the buffer of `rIdx`. -/
theorem rIdx_after (V : Valuation τ sig (Elt F)) : after opsE V (main_v37 : DevRef τ sig) = rIdx (V (main_v20 : DevRef τ sig)) := by
  after_results
  rfl

/-- What the group leaves in the buffer of `rZq`. -/
theorem rZq_after (V : Valuation τ sig (Elt F)) : after opsG V (main_v56 : DevRef τ sig) = rZq (V (main_v37 : DevRef τ sig)) (V (main_v0 : DevRef τ sig)) := by
  after_results
  rfl

/-- What the group leaves in the buffer of `rCommit`. -/
theorem rCommit_after (V : Valuation τ sig (Elt F)) : after opsH V (main_v66 : DevRef τ sig) = rCommit (V (main_v5 : DevRef τ sig)) (V (main_v56 : DevRef τ sig)) (V (main_arg1 : DevRef τ sig)) := by
  after_results
  rfl

/-- What the group leaves in the buffer of `rSmooth`. -/
theorem rSmooth_after (V : Valuation τ sig (Elt F)) : after opsH V (main_v75 : DevRef τ sig) = rSmooth (V (main_v5 : DevRef τ sig)) (V (main_arg1 : DevRef τ sig)) := by
  after_results
  rfl

/-- Buffers the group doesn't write. -/
theorem keepA (V : Valuation τ sig (Elt F)) :
    after opsA V (main_arg0 : DevRef τ sig) = V (main_arg0 : DevRef τ sig)
    ∧ after opsA V (main_arg1 : DevRef τ sig) = V (main_arg1 : DevRef τ sig)
    ∧ after opsA V (main_arg2 : DevRef τ sig) = V (main_arg2 : DevRef τ sig)
    ∧ after opsA V (main_arg3 : DevRef τ sig) = V (main_arg3 : DevRef τ sig) := by
  refine ⟨?_, ?_, ?_, ?_⟩ <;> after_results

/-- Buffers the group doesn't write. -/
theorem keepB (V : Valuation τ sig (Elt F)) :
    after opsB V (main_arg0 : DevRef τ sig) = V (main_arg0 : DevRef τ sig)
    ∧ after opsB V (main_arg1 : DevRef τ sig) = V (main_arg1 : DevRef τ sig)
    ∧ after opsB V (main_arg2 : DevRef τ sig) = V (main_arg2 : DevRef τ sig)
    ∧ after opsB V (main_arg3 : DevRef τ sig) = V (main_arg3 : DevRef τ sig)
    ∧ after opsB V (main_v0 : DevRef τ sig) = V (main_v0 : DevRef τ sig)
    ∧ after opsB V (main_v5 : DevRef τ sig) = V (main_v5 : DevRef τ sig) := by
  refine ⟨?_, ?_, ?_, ?_, ?_, ?_⟩ <;> after_results

/-- Buffers the group doesn't write. -/
theorem keepC (V : Valuation τ sig (Elt F)) :
    after opsC V (main_arg0 : DevRef τ sig) = V (main_arg0 : DevRef τ sig)
    ∧ after opsC V (main_arg1 : DevRef τ sig) = V (main_arg1 : DevRef τ sig)
    ∧ after opsC V (main_arg2 : DevRef τ sig) = V (main_arg2 : DevRef τ sig)
    ∧ after opsC V (main_arg3 : DevRef τ sig) = V (main_arg3 : DevRef τ sig)
    ∧ after opsC V (main_v0 : DevRef τ sig) = V (main_v0 : DevRef τ sig)
    ∧ after opsC V (main_v5 : DevRef τ sig) = V (main_v5 : DevRef τ sig)
    ∧ after opsC V (main_v20 : DevRef τ sig) = V (main_v20 : DevRef τ sig) := by
  refine ⟨?_, ?_, ?_, ?_, ?_, ?_, ?_⟩ <;> after_results

/-- Buffers the group doesn't write. -/
theorem keepD (V : Valuation τ sig (Elt F)) :
    after opsD V (main_arg0 : DevRef τ sig) = V (main_arg0 : DevRef τ sig)
    ∧ after opsD V (main_arg1 : DevRef τ sig) = V (main_arg1 : DevRef τ sig)
    ∧ after opsD V (main_arg2 : DevRef τ sig) = V (main_arg2 : DevRef τ sig)
    ∧ after opsD V (main_arg3 : DevRef τ sig) = V (main_arg3 : DevRef τ sig)
    ∧ after opsD V (main_v0 : DevRef τ sig) = V (main_v0 : DevRef τ sig)
    ∧ after opsD V (main_v5 : DevRef τ sig) = V (main_v5 : DevRef τ sig)
    ∧ after opsD V (main_v20 : DevRef τ sig) = V (main_v20 : DevRef τ sig) := by
  refine ⟨?_, ?_, ?_, ?_, ?_, ?_, ?_⟩ <;> after_results

/-- Buffers the group doesn't write. -/
theorem keepL (V : Valuation τ sig (Elt F)) :
    after opsL V (main_arg0 : DevRef τ sig) = V (main_arg0 : DevRef τ sig)
    ∧ after opsL V (main_arg1 : DevRef τ sig) = V (main_arg1 : DevRef τ sig)
    ∧ after opsL V (main_arg2 : DevRef τ sig) = V (main_arg2 : DevRef τ sig)
    ∧ after opsL V (main_arg3 : DevRef τ sig) = V (main_arg3 : DevRef τ sig)
    ∧ after opsL V (main_v0 : DevRef τ sig) = V (main_v0 : DevRef τ sig)
    ∧ after opsL V (main_v5 : DevRef τ sig) = V (main_v5 : DevRef τ sig)
    ∧ after opsL V (main_v20 : DevRef τ sig) = V (main_v20 : DevRef τ sig) := by
  refine ⟨?_, ?_, ?_, ?_, ?_, ?_, ?_⟩ <;> after_results

/-- Buffers the group doesn't write. -/
theorem keepM (V : Valuation τ sig (Elt F)) :
    after opsM V (main_arg0 : DevRef τ sig) = V (main_arg0 : DevRef τ sig)
    ∧ after opsM V (main_arg1 : DevRef τ sig) = V (main_arg1 : DevRef τ sig)
    ∧ after opsM V (main_arg2 : DevRef τ sig) = V (main_arg2 : DevRef τ sig)
    ∧ after opsM V (main_arg3 : DevRef τ sig) = V (main_arg3 : DevRef τ sig)
    ∧ after opsM V (main_v0 : DevRef τ sig) = V (main_v0 : DevRef τ sig)
    ∧ after opsM V (main_v5 : DevRef τ sig) = V (main_v5 : DevRef τ sig)
    ∧ after opsM V (main_v20 : DevRef τ sig) = V (main_v20 : DevRef τ sig) := by
  refine ⟨?_, ?_, ?_, ?_, ?_, ?_, ?_⟩ <;> after_results

/-- Buffers the group doesn't write. -/
theorem keepE (V : Valuation τ sig (Elt F)) :
    after opsE V (main_arg0 : DevRef τ sig) = V (main_arg0 : DevRef τ sig)
    ∧ after opsE V (main_arg1 : DevRef τ sig) = V (main_arg1 : DevRef τ sig)
    ∧ after opsE V (main_arg2 : DevRef τ sig) = V (main_arg2 : DevRef τ sig)
    ∧ after opsE V (main_arg3 : DevRef τ sig) = V (main_arg3 : DevRef τ sig)
    ∧ after opsE V (main_v0 : DevRef τ sig) = V (main_v0 : DevRef τ sig)
    ∧ after opsE V (main_v5 : DevRef τ sig) = V (main_v5 : DevRef τ sig)
    ∧ after opsE V (main_v36 : DevRef τ sig) = V (main_v36 : DevRef τ sig) := by
  refine ⟨?_, ?_, ?_, ?_, ?_, ?_, ?_⟩ <;> after_results

/-- Buffers the group doesn't write. -/
theorem keepG (V : Valuation τ sig (Elt F)) :
    after opsG V (main_arg0 : DevRef τ sig) = V (main_arg0 : DevRef τ sig)
    ∧ after opsG V (main_arg1 : DevRef τ sig) = V (main_arg1 : DevRef τ sig)
    ∧ after opsG V (main_arg2 : DevRef τ sig) = V (main_arg2 : DevRef τ sig)
    ∧ after opsG V (main_arg3 : DevRef τ sig) = V (main_arg3 : DevRef τ sig)
    ∧ after opsG V (main_v5 : DevRef τ sig) = V (main_v5 : DevRef τ sig)
    ∧ after opsG V (main_v36 : DevRef τ sig) = V (main_v36 : DevRef τ sig)
    ∧ after opsG V (main_v37 : DevRef τ sig) = V (main_v37 : DevRef τ sig) := by
  refine ⟨?_, ?_, ?_, ?_, ?_, ?_, ?_⟩ <;> after_results

/-- Buffers the group doesn't write. -/
theorem keepH (V : Valuation τ sig (Elt F)) :
    after opsH V (main_arg0 : DevRef τ sig) = V (main_arg0 : DevRef τ sig)
    ∧ after opsH V (main_arg1 : DevRef τ sig) = V (main_arg1 : DevRef τ sig)
    ∧ after opsH V (main_arg2 : DevRef τ sig) = V (main_arg2 : DevRef τ sig)
    ∧ after opsH V (main_arg3 : DevRef τ sig) = V (main_arg3 : DevRef τ sig)
    ∧ after opsH V (main_v36 : DevRef τ sig) = V (main_v36 : DevRef τ sig)
    ∧ after opsH V (main_v37 : DevRef τ sig) = V (main_v37 : DevRef τ sig) := by
  refine ⟨?_, ?_, ?_, ?_, ?_, ?_⟩ <;> after_results

/-- The group touches the core's own buffers only. -/
theorem subA : (opsA : List (HloOp τ sig (Elt F))).Forall fun op => op.bufs ⊆ tcRefs τ sig :=
  ⟨unary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every operation of the group determines what it writes. -/
theorem detA : ∀ op ∈ (opsA : List (HloOp τ sig (Elt F))), op.fresh = ∅ := by
  intro _ h; (repeat (cases h with | head => rfl | tail _ h => ?_)); exact nomatch h

/-- The group touches the core's own buffers only. -/
theorem subB : (opsB : List (HloOp τ sig (Elt F))).Forall fun op => op.bufs ⊆ tcRefs τ sig :=
  ⟨reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- Every operation of the group determines what it writes. -/
theorem detB : ∀ op ∈ (opsB : List (HloOp τ sig (Elt F))), op.fresh = ∅ := by
  intro _ h; (repeat (cases h with | head => rfl | tail _ h => ?_)); exact nomatch h

/-- The group touches the core's own buffers only. -/
theorem subC : (opsC : List (HloOp τ sig (Elt F))).Forall fun op => op.bufs ⊆ tcRefs τ sig :=
  ⟨reshape_bufs_sub .., unary_bufs_sub .., unary_bufs_sub .., nullary_bufs_sub .., binary_bufs_sub .., unary_bufs_sub .., unary_bufs_sub .., binary_bufs_sub ..⟩

/-- Every operation of the group determines what it writes. -/
theorem detC : ∀ op ∈ (opsC : List (HloOp τ sig (Elt F))), op.fresh = ∅ := by
  intro _ h; (repeat (cases h with | head => rfl | tail _ h => ?_)); exact nomatch h

/-- The group touches the core's own buffers only. -/
theorem subD : (opsD : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..⟩

/-- Every operation of the group determines what it writes. -/
theorem detD : ∀ op ∈ (opsD : List (HloOp τ sig (Elt F))), op.fresh = ∅ := by
  intro _ h; (repeat (cases h with | head => rfl | tail _ h => ?_)); exact nomatch h

/-- The group touches the core's own buffers only. -/
theorem subL : (opsL : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩

/-- Every operation of the group determines what it writes. -/
theorem detL : ∀ op ∈ (opsL : List (HloOp τ sig (Elt F))), op.fresh = ∅ := by
  intro _ h; (repeat (cases h with | head => rfl | tail _ h => ?_)); exact nomatch h

/-- The group touches the core's own buffers only. -/
theorem subM : (opsM : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., unary_bufs_sub .., binary_bufs_sub ..⟩

/-- Every operation of the group determines what it writes. -/
theorem detM : ∀ op ∈ (opsM : List (HloOp τ sig (Elt F))), op.fresh = ∅ := by
  intro _ h; (repeat (cases h with | head => rfl | tail _ h => ?_)); exact nomatch h

/-- The group touches the core's own buffers only. -/
theorem subE : (opsE : List (HloOp τ sig (Elt F))).Forall fun op => op.bufs ⊆ tcRefs τ sig :=
  ⟨nullary_bufs_sub .., nullary_bufs_sub .., nullary_bufs_sub .., quaternary_bufs_sub .., quaternary_bufs_sub ..⟩

/-- Every operation of the group determines what it writes. -/
theorem detE : ∀ op ∈ (opsE : List (HloOp τ sig (Elt F))), op.fresh = ∅ := by
  intro _ h; (repeat (cases h with | head => rfl | tail _ h => ?_)); exact nomatch h

/-- The group touches the core's own buffers only. -/
theorem subG : (opsG : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., reshape_bufs_sub ..⟩

/-- Every operation of the group determines what it writes. -/
theorem detG : ∀ op ∈ (opsG : List (HloOp τ sig (Elt F))), op.fresh = ∅ := by
  intro _ h; (repeat (cases h with | head => rfl | tail _ h => ?_)); exact nomatch h

/-- The group touches the core's own buffers only. -/
theorem subH : (opsH : List (HloOp τ sig (Elt F))).Forall fun op => op.bufs ⊆ tcRefs τ sig :=
  ⟨unary_bufs_sub .., binary_bufs_sub .., nullary_bufs_sub .., binary_bufs_sub .., nullary_bufs_sub .., binary_bufs_sub .., binary_bufs_sub .., binary_bufs_sub .., unary_bufs_sub .., binary_bufs_sub .., nullary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., binary_bufs_sub ..⟩

/-- Every operation of the group determines what it writes. -/
theorem detH : ∀ op ∈ (opsH : List (HloOp τ sig (Elt F))), op.fresh = ∅ := by
  intro _ h; (repeat (cases h with | head => rfl | tail _ h => ?_)); exact nomatch h

/-- Running two lines of operations one after the other. -/
theorem after_join (l l' : List (HloOp τ sig (Elt F))) (V : Valuation τ sig (Elt F)) : after (l ++ l') V = after l' (after l V) := by
  induction l generalizing V with
  | nil => rfl
  | cons op l ih => exact ih _

/-- What the whole line leaves in the four result buffers and the four arguments. -/
theorem after_all (V : Valuation τ sig (Elt F)) :
    after ops V (main_v75 : DevRef τ sig) = rSmooth (rZn (V (main_arg0 : DevRef τ sig))) (V (main_arg1 : DevRef τ sig))
    ∧ after ops V (main_v66 : DevRef τ sig)
        = rCommit (rZn (V (main_arg0 : DevRef τ sig)))
            (rZq (rIdx (rDist (rZn (V (main_arg0 : DevRef τ sig))) (rBook (V (main_arg2 : DevRef τ sig))))) (rBook (V (main_arg2 : DevRef τ sig))))
            (V (main_arg1 : DevRef τ sig))
    ∧ after ops V (main_v36 : DevRef τ sig)
        = rLp (rLsm (rShift (rLogits (rDist (rZn (V (main_arg0 : DevRef τ sig))) (rBook (V (main_arg2 : DevRef τ sig)))) (V (main_arg3 : DevRef τ sig)))))
            (V (main_arg1 : DevRef τ sig))
    ∧ after ops V (main_v37 : DevRef τ sig)
        = rIdx (rDist (rZn (V (main_arg0 : DevRef τ sig))) (rBook (V (main_arg2 : DevRef τ sig))))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  rw [show (ops : List (HloOp τ sig (Elt F))) = opsA ++ (opsB ++ (opsC ++ (opsD ++ (opsL ++ (opsM ++ (opsE ++ (opsG ++ opsH))))))) from rfl]
  rw [after_join, after_join, after_join, after_join, after_join, after_join, after_join, after_join]
  obtain ⟨a0, a1, a2, a3⟩ := keepA V
  generalize hA : after opsA V = VA at a0 a1 a2 a3 ⊢
  obtain ⟨b0, b1, b2, b3, b4, b5⟩ := keepB VA
  generalize hB : after opsB VA = VB at b0 b1 b2 b3 b4 b5 ⊢
  obtain ⟨c0, c1, c2, c3, c4, c5, c6⟩ := keepC VB
  generalize hC : after opsC VB = VC at c0 c1 c2 c3 c4 c5 c6 ⊢
  obtain ⟨d0, d1, d2, d3, d4, d5, d6⟩ := keepD VC
  generalize hD : after opsD VC = VD at d0 d1 d2 d3 d4 d5 d6 ⊢
  obtain ⟨l0, l1, l2, l3, l4, l5, l6⟩ := keepL VD
  generalize hL : after opsL VD = VL at l0 l1 l2 l3 l4 l5 l6 ⊢
  obtain ⟨n0, n1, n2, n3, n4, n5, n6⟩ := keepM VL
  generalize hM : after opsM VL = VM at n0 n1 n2 n3 n4 n5 n6 ⊢
  obtain ⟨e0, e1, e2, e3, e4, e5, e6⟩ := keepE VM
  generalize hE : after opsE VM = VE at e0 e1 e2 e3 e4 e5 e6 ⊢
  obtain ⟨g0, g1, g2, g3, g5, g6, g7⟩ := keepG VE
  generalize hG : after opsG VE = VG at g0 g1 g2 g3 g5 g6 g7 ⊢
  obtain ⟨k0, k1, k2, k3, k6, k7⟩ := keepH VG
  have hbook : VA (main_v0 : DevRef τ sig) = rBook (V (main_arg2 : DevRef τ sig)) := by rw [← hA]; exact rBook_after V
  have hzn : VA (main_v5 : DevRef τ sig) = rZn (V (main_arg0 : DevRef τ sig)) := by rw [← hA]; exact rZn_after V
  have hdist : VB (main_v20 : DevRef τ sig) = rDist (rZn (V (main_arg0 : DevRef τ sig))) (rBook (V (main_arg2 : DevRef τ sig))) := by
    rw [← hB, rDist_after, hbook, hzn]
  have hlog : VC (main_v27 : DevRef τ sig) = rLogits (VB (main_v20 : DevRef τ sig)) (VB (main_arg3 : DevRef τ sig)) := by
    rw [← hC, rLogits_after]
  have hshift : VD (main_call1_v5 : DevRef τ sig) = rShift (VC (main_v27 : DevRef τ sig)) := by
    rw [← hD, rShift_after]
  have hlsm : VL (main_v28 : DevRef τ sig) = rLsm (VD (main_call1_v5 : DevRef τ sig)) := by
    rw [← hL, rLsm_after]
  have hlp : VM (main_v36 : DevRef τ sig) = rLp (VL (main_v28 : DevRef τ sig)) (VL (main_arg1 : DevRef τ sig)) := by
    rw [← hM, rLp_after]
  have hidx : VE (main_v37 : DevRef τ sig) = rIdx (VM (main_v20 : DevRef τ sig)) := by rw [← hE, rIdx_after]
  have hzq : VG (main_v56 : DevRef τ sig) = rZq (VE (main_v37 : DevRef τ sig)) (VE (main_v0 : DevRef τ sig)) := by rw [← hG, rZq_after]
  refine ⟨?_, ?_, ?_, ?_, ?_, ?_, ?_, ?_⟩
  · rw [rSmooth_after, g5, e5, n5, l5, d5, c5, b5, hzn, g1, e1, n1, l1, d1, c1, b1, a1]
  · rw [rCommit_after, hzq, hidx, g5, e5, n5, l5, d5, c5, b5, hzn, g1, e1, n1, l1, d1, c1, b1, a1, n6, l6, d6, c6, hdist, e4, n4, l4, d4, c4, b4, hbook]
  · rw [k6, g6, e6, hlp, hlsm, hshift, hlog, hdist, l1, d1, c1, b1, a1, b3, a3]
  · rw [k7, g7, hidx, n6, l6, d6, c6, hdist]
  · rw [k0, g0, e0, n0, l0, d0, c0, b0, a0]
  · rw [k1, g1, e1, n1, l1, d1, c1, b1, a1]
  · rw [k2, g2, e2, n2, l2, d2, c2, b2, a2]
  · rw [k3, g3, e3, n3, l3, d3, c3, b3, a3]

/-- Nothing is scoped on this signature. -/
theorem scopedRefs_none : (Finset.univ.filter fun b : Ref sig .tc => b.isScoped) = ∅ := by decide
theorem scopedSems_none : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  List.forall_append.mpr ⟨subA, List.forall_append.mpr ⟨subB, List.forall_append.mpr ⟨subC, List.forall_append.mpr ⟨subD,
    List.forall_append.mpr ⟨subL, List.forall_append.mpr ⟨subM, List.forall_append.mpr ⟨subE, List.forall_append.mpr ⟨subG, subH⟩⟩⟩⟩⟩⟩⟩⟩

/-- Every operation determines what it writes. -/
theorem ops_det : ∀ op ∈ (ops : List (HloOp τ sig (Elt F))), op.fresh = ∅ :=
  List.forall_mem_append.mpr ⟨detA, List.forall_mem_append.mpr ⟨detB, List.forall_mem_append.mpr ⟨detC, List.forall_mem_append.mpr ⟨detD,
    List.forall_mem_append.mpr ⟨detL, List.forall_mem_append.mpr ⟨detM, List.forall_mem_append.mpr ⟨detE, List.forall_mem_append.mpr ⟨detG, detH⟩⟩⟩⟩⟩⟩⟩⟩

/-- The reference's run, from any memory with zero counters: every fair execution ends, the four results hold the
    reference's formulas of the arguments, the arguments are unchanged, and every counter is zero. -/
theorem run_full (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v75) = rSmooth (rZn (m ((c.tc : Thread nD τ).loc main_arg0))) (m ((c.tc : Thread nD τ).loc main_arg1))
        ∧ r.2.mem ((c.tc : Thread nD τ).loc main_v66)
            = rCommit (rZn (m ((c.tc : Thread nD τ).loc main_arg0)))
                (rZq (rIdx (rDist (rZn (m ((c.tc : Thread nD τ).loc main_arg0))) (rBook (m ((c.tc : Thread nD τ).loc main_arg2)))))
                  (rBook (m ((c.tc : Thread nD τ).loc main_arg2)))) (m ((c.tc : Thread nD τ).loc main_arg1))
        ∧ r.2.mem ((c.tc : Thread nD τ).loc main_v36)
            = rLp (rLsm (rShift (rLogits (rDist (rZn (m ((c.tc : Thread nD τ).loc main_arg0))) (rBook (m ((c.tc : Thread nD τ).loc main_arg2))))
                (m ((c.tc : Thread nD τ).loc main_arg3))))) (m ((c.tc : Thread nD τ).loc main_arg1))
        ∧ r.2.mem ((c.tc : Thread nD τ).loc main_v37)
            = rIdx (rDist (rZn (m ((c.tc : Thread nD τ).loc main_arg0))) (rBook (m ((c.tc : Thread nD τ).loc main_arg2))))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => by
      obtain ⟨h1, h2, h3, h4, h5, h6, h7, h8⟩ := after_all (launchContents m c)
      exact ⟨(h c main_v75).trans h1, (h c main_v66).trans h2, (h c main_v36).trans h3, (h c main_v37).trans h4,
        (h c main_arg0).trans h5, (h c main_arg1).trans h6, (h c main_arg2).trans h7, (h c main_arg3).trans h8⟩,
      sem_eq_zero_of_no_sems rfl _⟩)
    (run_seq scopedRefs_none scopedSems_none defs main (fun _ => ops) main_eq (fun _ => ops_sub) m ρ (fun _ => ops_det))

end Cert.ReferenceIdeal.Run

end
-- ==== Proof.Row.lean ====
module

public import Idealize.ShloMosaic.PureOps.Ideal.Laws
public import Idealize.ShloMosaic.PureOps.Reduce

@[expose] public section

set_option maxRecDepth 16384

noncomputable section

/-! One row of the input against the codebook, over the extended reals: the row divided by its norm, its distances, the
    nearest codebook row, the log probabilities, and what the row adds to the two losses. -/

namespace Cert.Vq

open Idealize.ShloMosaic

/-- A row of 64 numbers. -/
abbrev Row := Fin 64 → EReal

/-- The row divided by its norm, or by a small constant if that is larger. -/
def unit (z : Row) : Row := fun c =>
  Ideal.div (z c) (max (Ideal.sqrt (∑ k, z k * z k)) (Ideal.ofBits .f32 0x2B8CBCCC#32))

/-- The squared distance of two rows, expanded. -/
def dist (u e : Row) : EReal := ∑ c, u c * u c - Ideal.ofBits .f32 0x40000000#32 * ∑ c, u c * e c + ∑ c, e c * e c

/-- The log-softmax of 1024 logits. -/
def logp (l : Fin 1024 → EReal) (k : Fin 1024) : EReal :=
  l k - Finset.univ.fold max ⊥ l - Ideal.log (∑ j, Ideal.exp (l j - Finset.univ.fold max ⊥ l))

/-- A log probability under the mask. -/
def masked (x k : EReal) : EReal := x * k + (1 - k) * Ideal.ofBits .f32 0xCE6E6B28#32

/-- The entry `k` is the first of the smallest. -/
def FirstMin (d : Fin 1024 → EReal) (k : Fin 1024) : Prop := (∀ j, d k ≤ d j) ∧ ∀ j, d j = d k → k ≤ j

/-- There is a first smallest entry. -/
theorem exists_firstMin (d : Fin 1024 → EReal) : ∃ k, FirstMin d k := by
  classical
  obtain ⟨k, -, hk⟩ := Finset.exists_min_image (Finset.univ : Finset (Fin 1024)) d ⟨0, Finset.mem_univ _⟩
  obtain ⟨i, hi, hm⟩ := Finset.exists_min_image (Finset.univ.filter fun j => d j = d k) id
    ⟨k, Finset.mem_filter.2 ⟨Finset.mem_univ _, rfl⟩⟩
  have hik := (Finset.mem_filter.1 hi).2
  exact ⟨i, fun j => hik ▸ hk j (Finset.mem_univ _),
    fun j hj => hm j (Finset.mem_filter.2 ⟨Finset.mem_univ _, hj.trans hik⟩)⟩

/-- The first of the smallest entries. -/
def first (d : Fin 1024 → EReal) : Fin 1024 := (exists_firstMin d).choose

theorem first_spec (d : Fin 1024 → EReal) : FirstMin d (first d) := (exists_firstMin d).choose_spec

/-- There is only one. -/
theorem firstMin_eq (d : Fin 1024 → EReal) (k : Fin 1024) (h : FirstMin d k) : k = first d := by
  have e : d k = d (first d) := le_antisymm (h.1 _) ((first_spec d).1 _)
  exact le_antisymm (h.2 _ e.symm) ((first_spec d).2 _ e)

/-- The minimum of the entries is the entry at the first smallest. -/
theorem fold_min (d : Fin 1024 → EReal) : Finset.univ.fold min ⊤ d = d (first d) := by
  refine le_antisymm ?_ ?_
  · exact ((Finset.le_fold_min (s := Finset.univ) (b := ⊤) (f := d) _).1 le_rfl).2 _ (Finset.mem_univ _)
  · exact (Finset.le_fold_min _).2 ⟨le_top, fun j _ => (first_spec d).1 j⟩

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_two : Ideal.ofBits .f32 0x40000000#32 = ((2 : ℝ) : EReal) := by
  simp [Ideal.ofBits, Ideal.ieee]
  rw [← EReal.coe_mul]
  norm_num
theorem small_pos : 0 < Ideal.ofBits .f32 0x2B8CBCCC#32 := by
  simp [Ideal.ofBits, Ideal.ieee]
  rw [← EReal.coe_mul]
  exact_mod_cast (by positivity : (0 : ℝ) < 9223372 * (2 ^ 63)⁻¹)

/-- The word of a small number. -/
theorem toInt_word (k : ℕ) (h : k ≤ 1024) : (BitVec.ofNat 32 k).toInt = k := by
  rw [BitVec.toInt_eq_toNat_of_lt] <;> rw [BitVec.toNat_ofNat, Nat.mod_eq_of_lt (by omega)]
  omega

/-- The signed minimum of two words, read as a number. -/
theorem toInt_minsi (a b : BitVec 32) : (IntOp.minsi a b).toInt = min a.toInt b.toInt := by
  unfold IntOp.minsi
  split <;> rename_i h <;> simp [BitVec.sle, BitVec.slt] at h <;> omega

/-- The smallest of the positions at which the minimum is taken is the first smallest entry. -/
theorem fold_first (d : Fin 1024 → EReal) :
    Finset.univ.fold IntOp.minsi 2147483647#32
        (fun k : Fin 1024 => if d k = d (first d) then BitVec.ofNat 32 k.val else 1024#32)
      = BitVec.ofNat 32 (first d).val := by
  have hlt := (first d).isLt
  have hw := toInt_word (first d).val (by omega)
  apply BitVec.eq_of_toInt_eq
  refine le_antisymm ?_ ?_
  · refine (Finset.fold_op_rel_iff_or (r := fun (c x : BitVec 32) => x.toInt ≤ c.toInt) (op := IntOp.minsi) (s := Finset.univ)
      (by intro x y z; rw [toInt_minsi]; exact min_le_iff)).2 (Or.inr ⟨first d, Finset.mem_univ _, ?_⟩)
    rw [if_pos rfl]
  · refine (Finset.fold_op_rel_iff_and (r := fun (c x : BitVec 32) => c.toInt ≤ x.toInt) (op := IntOp.minsi) (s := Finset.univ)
      (by intro x y z; rw [toInt_minsi]; exact le_min_iff)).2 ⟨?_, fun j _ => ?_⟩
    · rw [hw, show (2147483647#32).toInt = 2147483647 from by decide]; omega
    · split
      · rename_i h
        rw [hw, toInt_word _ (by omega)]
        exact_mod_cast (first_spec d).2 j h
      · rw [hw, show (1024#32).toInt = 1024 from by decide]; omega

/-- What one comparison of two (value, position) pairs leaves, if it picks the smaller value and, of equal values, the
    smaller position; folded along a list it leaves a pair that is no larger than any. -/
theorem foldl_pick {α : Type} (f : α → α → α) (le : α → α → Prop) (hr : ∀ a, le a a) (ht : ∀ a b c, le a b → le b c → le a c)
    (hf : ∀ a b, (f a b = a ∨ f a b = b) ∧ le (f a b) a ∧ le (f a b) b) (L : List α) (a : α) :
    (L.foldl f a = a ∨ L.foldl f a ∈ L) ∧ le (L.foldl f a) a ∧ ∀ x ∈ L, le (L.foldl f a) x := by
  induction L generalizing a with
  | nil => exact ⟨Or.inl rfl, hr a, fun x hx => by simp at hx⟩
  | cons b L ih =>
    obtain ⟨h1, h2, h3⟩ := ih (f a b)
    obtain ⟨g1, g2, g3⟩ := hf a b
    rw [List.foldl_cons]
    refine ⟨?_, ht _ _ _ h2 g2, ?_⟩
    · rcases h1 with h1 | h1
      · rcases g1 with g1 | g1
        · exact Or.inl (h1.trans g1)
        · exact Or.inr (by rw [h1, g1]; exact List.mem_cons_self)
      · exact Or.inr (List.mem_cons_of_mem _ h1)
    · intro x hx
      rcases List.mem_cons.1 hx with rfl | hx
      · exact ht _ _ _ h2 g3
      · exact h3 x hx

/-- The pair `a` comes before `b`: its value is smaller, or the same at no later a position. -/
def Before (a b : EReal × BitVec 32) : Prop := a.1 < b.1 ∨ a.1 = b.1 ∧ a.2.toInt ≤ b.2.toInt

theorem before_refl (a : EReal × BitVec 32) : Before a a := Or.inr ⟨rfl, le_rfl⟩

theorem before_trans (a b c : EReal × BitVec 32) (h : Before a b) (g : Before b c) : Before a c := by
  rcases h with h | ⟨h, h'⟩ <;> rcases g with g | ⟨g, g'⟩
  · exact Or.inl (h.trans g)
  · exact Or.inl (g ▸ h)
  · exact Or.inl (h ▸ g)
  · exact Or.inr ⟨h.trans g, h'.trans g'⟩

/-- A pair taken from (⊤, 0) and the entries with their positions, and before all of them, holds the first smallest. -/
theorem pair_first (d : Fin 1024 → EReal) (p : EReal × BitVec 32)
    (hp : p = (⊤, 0#32) ∨ ∃ k : Fin 1024, p = (d k, BitVec.ofNat 32 k.val))
    (hb : ∀ k : Fin 1024, Before p (d k, BitVec.ofNat 32 k.val)) : p.2 = BitVec.ofNat 32 (first d).val := by
  obtain ⟨k, rfl⟩ : ∃ k : Fin 1024, p = (d k, BitVec.ofNat 32 k.val) := by
    rcases hp with rfl | h
    · rcases hb 0 with h | ⟨h, -⟩
      · exact absurd h not_top_lt
      · exact ⟨0, Prod.ext h rfl⟩
    · exact h
  show BitVec.ofNat 32 k.val = _
  rw [firstMin_eq d k ⟨fun j => ?_, fun j hj => ?_⟩]
  · rcases hb j with h | ⟨h, -⟩
    · exact h.le
    · exact h.le
  · rcases hb j with h | ⟨-, h⟩
    · exact absurd hj h.ne'
    · rw [toInt_word _ (by omega), toInt_word _ (by omega)] at h
      exact_mod_cast h

/-- A product of a number and itself that is not infinite is that of a finite number. -/
theorem real_of_sq (a : EReal) (h : a * a ≠ ⊤) : ∃ r : ℝ, a = r := by
  induction a using EReal.rec with
  | bot => exact absurd EReal.bot_mul_bot h
  | coe r => exact ⟨r, rfl⟩
  | top => exact absurd EReal.top_mul_top h

theorem sq_nonneg (a : EReal) : 0 ≤ a * a := by
  induction a using EReal.rec with
  | bot => rw [EReal.bot_mul_bot]; exact le_top
  | coe r => rw [← EReal.coe_mul]; exact_mod_cast mul_self_nonneg r
  | top => rw [EReal.top_mul_top]; exact le_top

/-- A row divided by its norm is finite. -/
theorem unit_real (z : Row) : ∃ u : Fin 64 → ℝ, ∀ c, unit z c = u c := by
  suffices h : ∀ c, ∃ r : ℝ, unit z c = r from ⟨fun c => (h c).choose, fun c => (h c).choose_spec⟩
  intro c
  unfold unit
  generalize hn : max (Ideal.sqrt (∑ k, z k * z k)) (Ideal.ofBits .f32 0x2B8CBCCC#32) = n
  have hpos : 0 < n := hn ▸ lt_of_lt_of_le small_pos (le_max_right _ _)
  unfold Ideal.div
  rw [if_neg hpos.ne']
  by_cases ht : n = ⊤
  · exact ⟨0, by rw [ht, EReal.inv_top, mul_zero]; rfl⟩
  · obtain ⟨x, rfl⟩ : ∃ x : ℝ, n = x := ⟨n.toReal, (EReal.coe_toReal ht (ne_bot_of_gt hpos)).symm⟩
    have hs : ∑ k, z k * z k ≠ ⊤ := fun e => by
      rw [e] at hn
      have : Ideal.sqrt ⊤ = ⊤ := rfl
      rw [this, max_eq_left le_top] at hn
      exact EReal.coe_ne_top x hn.symm
    obtain ⟨y, hy⟩ := real_of_sq (z c) fun e => hs (top_le_iff.1 (e ▸
      Finset.single_le_sum (f := fun k => z k * z k) (fun k _ => sq_nonneg (z k)) (Finset.mem_univ c)))
    exact ⟨y * x⁻¹, by rw [hy, ← EReal.coe_inv, ← EReal.coe_mul]⟩

/-- A finite sum of finite numbers, in the extended reals. -/
theorem sum_coe {n : ℕ} (f : Fin n → ℝ) : (∑ c, (f c : EReal)) = ((∑ c, f c : ℝ) : EReal) :=
  (map_sum (⟨⟨(↑), EReal.coe_zero⟩, EReal.coe_add⟩ : ℝ →+ EReal) f Finset.univ).symm

/-- The two ways of scaling a distance into a logit: times minus the step, or its negation over the step's inverse. -/
theorem logit_eq (d : EReal) (s : ℝ) : d * (0 - (s : EReal)) = Ideal.div (-d) (Ideal.div 1 (s : EReal)) := by
  unfold Ideal.div
  by_cases h : s = 0
  · subst h
    simp
  · have h0 : (s : EReal) ≠ 0 := by exact_mod_cast h
    rw [if_neg h0, one_mul, ← EReal.coe_inv, if_neg (by exact_mod_cast inv_ne_zero h), ← EReal.coe_inv, inv_inv, zero_sub,
      EReal.neg_mul, mul_neg]

/-- What a row adds to the commitment loss: the masked squared differences from a codebook row are the masked distance. -/
theorem commit_row (z e : Row) (k : EReal) (hk : k = 0 ∨ k = 1) (he : ∀ c, ∃ r : ℝ, e c = r) :
    ∑ c, (unit z c - e c * k) * (unit z c - e c * k) * k = dist (unit z) e * k := by
  rcases hk with rfl | rfl
  · simp
  · obtain ⟨u, hu⟩ := unit_real z
    choose v hv using he
    unfold dist
    simp only [mul_one, hu, hv, ofBits_two, ← EReal.coe_mul, ← EReal.coe_sub, sum_coe, ← EReal.coe_add]
    congr 1
    rw [Finset.mul_sum, ← Finset.sum_sub_distrib, ← Finset.sum_add_distrib]
    exact Finset.sum_congr rfl fun c _ => by ring

/-- What a row and the one before it add to the smoothness loss. -/
def step (u v : Row) (k : EReal) : EReal := (∑ c, (u c - v c) * (u c - v c)) * k

/-- The same with the mask inside the sum and the difference the other way round. -/
theorem step_eq (z y : Row) (k : EReal) (hk : k = 0 ∨ k = 1) :
    ∑ c, (unit y c - unit z c) * (unit y c - unit z c) * k = step (unit z) (unit y) k := by
  unfold step
  rcases hk with rfl | rfl
  · simp
  · obtain ⟨u, hu⟩ := unit_real z
    obtain ⟨v, hv⟩ := unit_real y
    simp only [mul_one, hu, hv, ← EReal.coe_mul, ← EReal.coe_sub]
    exact Finset.sum_congr rfl fun c _ => by congr 1; ring

end Cert.Vq

end
-- ==== Proof.Arrays.lean ====
module

public import proofs.«01_k».proof.Proof.Row
public import Idealize.ShloMosaic.Lib.Pointwise

@[expose] public section

set_option maxRecDepth 16384

noncomputable section

/-! The four results as functions of the argument arrays, over the extended reals. -/

namespace Cert.Vq

open Idealize.ShloMosaic

/-- The input, the mask, the codebook with its unused first row, and the results, as arrays. -/
abbrev ZArr := FVec Ideal (⟨3, ![8, 2048, 64]⟩ : Shape) .f32
abbrev MArr := FVec Ideal (⟨3, ![8, 2048, 1]⟩ : Shape) .f32
abbrev WArr := FVec Ideal (⟨2, ![1025, 64]⟩ : Shape) .f32
abbrev LArr := FVec Ideal (⟨3, ![8, 2048, 1024]⟩ : Shape) .f32

/-- Row `t` of batch `b`. -/
def zRow (z : ZArr) (b : Fin 8) (t : Fin 2048) : Row := fun c => z (ix3 b t c)

/-- Row `k` of the codebook rows in use. -/
def book (w : WArr) (k : Fin 1024) : Row := fun c => w (ix2 ⟨1 + k.val, by omega⟩ c)

/-- The distances of a row to the codebook rows. -/
def dists (z : ZArr) (w : WArr) (b : Fin 8) (t : Fin 2048) (k : Fin 1024) : EReal := dist (unit (zRow z b t)) (book w k)

/-- The step as a number. -/
def stepOf (s : BitVec 32) : EReal := ((s.toInt : ℝ) : EReal)

/-- The log probability of codebook row `k` for a row. -/
def lpAt (z : ZArr) (m : MArr) (w : WArr) (s : BitVec 32) (b : Fin 8) (t : Fin 2048) (k : Fin 1024) : EReal :=
  masked (logp (fun j => dists z w b t j * (0 - stepOf s)) k) (m (ix3 b t 0))

/-- The index of a row's nearest codebook row. -/
def ixAt (z : ZArr) (w : WArr) (b : Fin 8) (t : Fin 2048) : BitVec 32 := BitVec.ofNat 32 (first (dists z w b t)).val

/-- A row's smallest distance, under the mask. -/
def comAt (z : ZArr) (m : MArr) (w : WArr) (b : Fin 8) (t : Fin 2048) : EReal :=
  dists z w b t (first (dists z w b t)) * m (ix3 b t 0)

/-- A row's squared difference from the row before it, under the mask; nothing for the first row of a batch. -/
def gapAt (z : ZArr) (m : MArr) (b : Fin 8) (t : Fin 2048) : EReal :=
  if h : t.val = 0 then 0
  else step (unit (zRow z b t)) (unit (zRow z b ⟨t.val - 1, by omega⟩)) (m (ix3 b t 0))

/-- The number of unmasked entries, and a sum of the rows' contributions divided by it. -/
def meanOf (m : MArr) (x : EReal) : EReal :=
  Ideal.div x ((∑ b : Fin 8, ∑ t : Fin 2048, m (ix3 b t 0)) * Ideal.ofBits .f32 0x42800000#32)

end Cert.Vq

end
-- ==== Proof.Folds.lean ====
module

public import proofs.«01_k».proof.Proof.Arrays
public import Idealize.ShloMosaic.PureOps.Ideal.Laws

@[expose] public section

set_option maxRecDepth 16384

noncomputable section

/-! The maximum and the position of the minimum of each row of an array, for arrays of any size. -/

namespace Cert.Vq

open Idealize.ShloMosaic

/-- The maximum along the last axis. -/
theorem row_max {n0 n1 n2 : ℕ} {u : Shape} (l : FVec Ideal (⟨3, ![n0, n1, n2]⟩ : Shape) .f32) (init : FVec Ideal u .f32)
    (h : (⟨3, ![n0, n1, n2]⟩ : Shape).ReducesTo [2] (⟨2, ![n0, n1]⟩ : Shape)) (hu : 0 < u.numel) (b : Fin n0) (t : Fin n1) :
    Host.reduce FloatOps.maximumf l init h hu (ix2 b t)
      = Finset.univ.fold max (init (Shape.Idx.first hu) : EReal) (fun k => l (ix3 b t k)) := by
  rw [Host.reduce_eq_fold]
  exact h.fold_fiber_r3_a2 (ix2 b t) _ _ l

/-- The position of the minimum along the last axis, for any body that picks the pair that comes first. -/
theorem row_argmin {n0 : ℕ} {u : Shape} (f : EReal × BitVec 32 → EReal × BitVec 32 → EReal × BitVec 32)
    (hf : ∀ a b, (f a b = a ∨ f a b = b) ∧ Before (f a b) a ∧ Before (f a b) b)
    (d : FVec Ideal (⟨2, ![n0, 1024]⟩ : Shape) .f32) (y : IVec (⟨2, ![n0, 1024]⟩ : Shape) 32)
    (ix : FVec Ideal u .f32) (iy : IVec u 32)
    (h : (⟨2, ![n0, 1024]⟩ : Shape).ReducesTo [1] (⟨1, ![n0]⟩ : Shape)) (hu : 0 < u.numel)
    (hy : ∀ n k, y (ix2 n k) = BitVec.ofNat 32 k.val) (hx : ix (Shape.Idx.first hu) = (⊤ : EReal))
    (hi : iy (Shape.Idx.first hu) = 0#32) (n : Fin n0) :
    (Host.argReduce (F := Ideal) (φ := .f32) f d y ix iy h hu (ix1 n)).2 = BitVec.ofNat 32 (first fun k => d (ix2 n k)).val := by
  rw [Ideal.argReduce_eq_reduce2, Host.reduce2_eq_foldl_fiber, hx, hi]
  obtain ⟨h1, -, h3⟩ := foldl_pick f Before before_refl before_trans hf (Host.argReduceFiber d y h (ix1 n)) (⊤, 0#32)
  have hmem : ∀ p : EReal × BitVec 32, p ∈ Host.argReduceFiber d y h (ix1 n) ↔ ∃ k : Fin 1024, (d (ix2 n k), BitVec.ofNat 32 k.val) = p := by
    intro p
    unfold Host.argReduceFiber
    simp only [List.mem_map, List.mem_filter, List.mem_finRange, true_and, decide_eq_true_eq]
    constructor
    · rintro ⟨i, hi, rfl⟩
      obtain ⟨k, hk⟩ := (h.fiber_r2_a1 (ix1 n) _).1 hi
      refine ⟨k, ?_⟩
      rw [← hk, ← hy n k]
      rfl
    · rintro ⟨k, rfl⟩
      refine ⟨(⟨2, ![n0, 1024]⟩ : Shape).rowMajor (ix2 n k), ?_, ?_⟩
      · rw [Equiv.symm_apply_apply]
        exact (h.fiber_r2_a1 (ix1 n) _).2 ⟨k, rfl⟩
      · rw [Equiv.symm_apply_apply, hy]
  refine pair_first _ _ ?_ fun k => h3 _ ((hmem _).2 ⟨k, rfl⟩)
  rcases h1 with h1 | h1
  · exact Or.inl h1
  · obtain ⟨k, hk⟩ := (hmem _).1 h1
    exact Or.inr ⟨k, hk.symm⟩

end Cert.Vq

end
-- ==== Proof.RefDist.lean ====
module

public import proofs.«01_k».proof.Proof.RefRun
public import proofs.«01_k».proof.Proof.Folds

@[expose] public section

set_option maxRecDepth 16384

noncomputable section

/-! What the reference's arrays hold: the normalized input, the distances, the log probabilities and the indices. -/

namespace Cert.ReferenceIdeal.Value

open Idealize.ShloMosaic Idealize.ShloMosaic.TcCoe
open Cert.ReferenceIdeal Cert.ReferenceIdeal.Gen Cert.ReferenceIdeal.Run Cert.Vq

/-- The codebook rows in use. -/
theorem book_at (w : WArr) (k : Fin 1024) (c : Fin 64) : rBook (F := Ideal) w (ix2 k c) = book w k c := by
  unfold book
  pointwise [rBook]

/-- The normalized input. -/
theorem zn_at (z : ZArr) (b : Fin 8) (t : Fin 2048) (c : Fin 64) : rZn (F := Ideal) z (ix3 b t c) = unit (zRow z b t) c := by
  pointwise [rZn]
  rfl

/-- The distance of two rows, for any input and codebook. -/
theorem dist_of (u : FVec Ideal S8x2048x64 .f32) (e : FVec Ideal S1024x64 .f32) (n : Fin 16384) (k : Fin 1024) :
    rDist (F := Ideal) u e (ix2 n k)
      = dist (fun c => u (ix3 ⟨n.val / 2048, by omega⟩ ⟨n.val % 2048, by omega⟩ c)) (fun c => e (ix2 k c)) := by
  pointwise [rDist]
  rfl

/-- The array row of row `t` of batch `b`. -/
abbrev flatRow (b : Fin 8) (t : Fin 2048) : Fin 16384 := ⟨b.val * 2048 + t.val, by omega⟩

/-- The distances. -/
theorem dist_flat (z : ZArr) (w : WArr) (n : Fin 16384) (k : Fin 1024) :
    rDist (F := Ideal) (rZn z) (rBook w) (ix2 n k) = dists z w ⟨n.val / 2048, by omega⟩ ⟨n.val % 2048, by omega⟩ k := by
  rw [dist_of]
  unfold dists
  congr 1
  · exact funext fun c => zn_at z _ _ c
  · exact funext fun c => book_at w k c

/-- The distances of row `t` of batch `b`. -/
theorem dist_row (z : ZArr) (w : WArr) (b : Fin 8) (t : Fin 2048) (k : Fin 1024) :
    rDist (F := Ideal) (rZn z) (rBook w) (ix2 (flatRow b t) k) = dists z w b t k := by
  rw [dist_flat]
  have hb : (⟨(flatRow b t).val / 2048, by omega⟩ : Fin 8) = b := Fin.ext (show (b.val * 2048 + t.val) / 2048 = b.val by omega)
  have ht : (⟨(flatRow b t).val % 2048, by omega⟩ : Fin 2048) = t := Fin.ext (show (b.val * 2048 + t.val) % 2048 = t.val by omega)
  rw [hb, ht]

/-- The logits of a row. -/
theorem logits_at (d : FVec Ideal S16384x1024 .f32) (s : IVec S_ 32) (b : Fin 8) (t : Fin 2048) (k : Fin 1024) :
    rLogits (F := Ideal) d s (ix3 b t k) = d (ix2 (flatRow b t) k) * (0 - stepOf (s ix0)) := by
  refine Eq.trans ?_ (logit_eq _ _).symm
  pointwise [rLogits]
  rfl

/-- An array less a number for every row, and the maximum that is subtracted, for any such maximum. -/
theorem shift_of (R : FVec Ideal S8x2048 .f32) (l : FVec Ideal S8x2048x1024 .f32) (b : Fin 8) (t : Fin 2048) (k : Fin 1024) :
    subf l (broadcastInDim S8x2048x1024 ![0, 1, 2] bcast_S8x2048x1_S8x2048x1024_0_1_2
      (broadcastInDim S8x2048x1 ![0, 1] bcast_S8x2048_S8x2048x1_0_1
        (maximumf (broadcastInDim S8x2048 ![] bcast_S_S8x2048 (constant S_ .f32 0xFF800000#32)) R))) (ix3 b t k)
      = l (ix3 b t k) - max (Ideal.ofBits .f32 0xFF800000#32) (R (ix2 b t)) := by
  pointwise

/-- The shifted logits: each less the largest of its row. -/
theorem shift_at (l : FVec Ideal S8x2048x1024 .f32) (b : Fin 8) (t : Fin 2048) (k : Fin 1024) :
    rShift (F := Ideal) l (ix3 b t k) = l (ix3 b t k) - Finset.univ.fold max ⊥ (fun j => l (ix3 b t j)) := by
  unfold rShift
  rw [shift_of, row_max, ofBits_bot, max_eq_right bot_le]
  exact congrArg (fun x => l (ix3 b t k) - Finset.univ.fold max x (fun j => l (ix3 b t j))) ofBits_bot

/-- The log-softmax from the shifted logits. -/
theorem lsm_at (l : FVec Ideal S8x2048x1024 .f32) (b : Fin 8) (t : Fin 2048) (k : Fin 1024) :
    rLsm (F := Ideal) l (ix3 b t k) = l (ix3 b t k) - Ideal.log (∑ j, Ideal.exp (l (ix3 b t j))) := by
  pointwise [rLsm]

/-- The log probabilities under the mask. -/
theorem mask_at (l : FVec Ideal S8x2048x1024 .f32) (m : MArr) (b : Fin 8) (t : Fin 2048) (k : Fin 1024) :
    rLp (F := Ideal) l m (ix3 b t k) = masked (l (ix3 b t k)) (m (ix3 b t 0)) := by
  pointwise [rLp]
  rfl

/-- The reference's log probabilities. -/
theorem lp_eq (z : ZArr) (m : MArr) (w : WArr) (s : IVec S_ 32) (b : Fin 8) (t : Fin 2048) (k : Fin 1024) :
    rLp (F := Ideal) (rLsm (rShift (rLogits (rDist (rZn z) (rBook w)) s))) m (ix3 b t k) = lpAt z m w (s ix0) b t k := by
  rw [mask_at, lsm_at]
  simp only [shift_at, logits_at, dist_row]
  rfl

/-- The reference's way of picking the smaller of two pairs, by cases. -/
theorem pick_eq (a b : EReal × BitVec 32) : reducer_argmin_f32_i32 (F := Ideal) a b
    = if a.1 < b.1 then a else if a.1 = b.1 ∧ a.2.toInt < b.2.toInt then (b.1, a.2) else b := by
  unfold reducer_argmin_f32_i32
  have h1 : (FloatOps.cmpf (F := Ideal) (φ := .f32) .olt a.1 b.1) = if a.1 < b.1 then 1#1 else 0#1 := by
    simp [Ideal.cmpf_def, Ideal.cmp, BitVec.ofBool]; try split <;> simp_all
  have h2 : (FloatOps.cmpf (F := Ideal) (φ := .f32) .une a.1 a.1) = 0#1 := by simp [Ideal.cmpf_def, Ideal.cmp]
  have h3 : (FloatOps.cmpf (F := Ideal) (φ := .f32) .oeq a.1 b.1) = if a.1 = b.1 then 1#1 else 0#1 := by
    simp [Ideal.cmpf_def, Ideal.cmp, BitVec.ofBool]; try split <;> simp_all
  have h4 : IntOp.cmpi .slt a.2 b.2 = if a.2.toInt < b.2.toInt then 1#1 else 0#1 := by
    simp [IntOp.cmpi, BitVec.slt, BitVec.ofBool]; try split <;> simp_all
  simp only [h1, h2, h3, h4]
  by_cases p : a.1 < b.1
  · simp [p, p.ne, Scalar.select, IntOp.ori, IntOp.andi]
  · by_cases q : a.1 = b.1 <;> by_cases r : a.2.toInt < b.2.toInt <;> simp [p, q, r, Scalar.select, IntOp.ori, IntOp.andi]

/-- It picks one of the two, which comes before both. -/
theorem pick_first (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [pick_eq]
  by_cases p : a.1 < b.1
  · rw [if_pos p]; exact ⟨Or.inl rfl, before_refl a, Or.inl p⟩
  · rw [if_neg p]
    by_cases q : a.1 = b.1 ∧ a.2.toInt < b.2.toInt
    · rw [if_pos q]
      exact ⟨Or.inl (Prod.ext q.1.symm rfl), Or.inr ⟨q.1.symm, le_rfl⟩, Or.inr ⟨rfl, q.2.le⟩⟩
    · rw [if_neg q]
      refine ⟨Or.inr rfl, ?_, before_refl b⟩
      rcases lt_or_eq_of_le (not_lt.1 p) with h | h
      · exact Or.inl h
      · exact Or.inr ⟨h, not_lt.1 fun g => q ⟨h.symm, g⟩⟩

/-- The positions along a row. -/
theorem iota_at (n : Fin 16384) (k : Fin 1024) : iotaInDim S16384x1024 32 1 (ix2 n k) = BitVec.ofNat 32 k.val := by
  pointwise

/-- The indices are the positions the reduction over each row keeps. -/
theorem idx_open (d : FVec Ideal S16384x1024 .f32) :
    rIdx (F := Ideal) d = fun j => (Host.argReduce (F := Ideal) (φ := .f32) (reducer_argmin_f32_i32 (F := Ideal)) d (iotaInDim S16384x1024 32 1)
      (constant S_ .f32 0x7F800000#32) (constantI S_ 32 0#32) reducesTo_S16384x1024_S16384_d1 h_S_ j).2 :=
  rfl

/-- The index of a row's nearest codebook row, for any distances. -/
theorem idx_of (d : FVec Ideal S16384x1024 .f32) (n : Fin 16384) :
    rIdx (F := Ideal) d (ix1 n) = BitVec.ofNat 32 (first fun k => d (ix2 n k)).val := by
  rw [idx_open]
  exact row_argmin (n0 := 16384) (u := S_) (reducer_argmin_f32_i32 (F := Ideal)) pick_first d (iotaInDim S16384x1024 32 1)
    (constant S_ .f32 0x7F800000#32) (constantI S_ 32 0#32) reducesTo_S16384x1024_S16384_d1 h_S_ iota_at ofBits_top rfl n

/-- The reference's indices. -/
theorem ix_eq (z : ZArr) (w : WArr) (n : Fin 16384) :
    rIdx (F := Ideal) (rDist (rZn z) (rBook w)) (ix1 n) = ixAt z w ⟨n.val / 2048, by omega⟩ ⟨n.val % 2048, by omega⟩ := by
  rw [idx_of]
  unfold ixAt
  simp only [dist_flat]

end Cert.ReferenceIdeal.Value

end
-- ==== Proof.OneHot.lean ====
module

public import proofs.«01_k».proof.Proof.Arrays
public import Idealize.ShloMosaic.Lib.Routing.OpsSet

@[expose] public section

set_option maxRecDepth 16384

noncomputable section

/-! One write into each row of a matrix: the scatter whose index table holds, for update `n`, the row `n` and a column. -/

namespace Cert.Vq

open Idealize.ShloMosaic

variable {R C N w : ℕ} (d : ScatterDims (⟨2, ![R, C]⟩ : Shape) (⟨2, ![N, 2]⟩ : Shape) (⟨1, ![N]⟩ : Shape))

/-- Update `n` reads word `q` of its pair in row `n` of the table. -/
theorem pair_word (hsd : d.scatterDimsToOperandDims = [0, 1]) (hivd : d.indexVectorDim = 1) (n : Fin N) (q : Fin 2)
    (hq : d.scatterDimsToOperandDims.idxOf q < d.scatterDimsToOperandDims.length) :
    d.siIdx (ix1 n) ⟨d.scatterDimsToOperandDims.idxOf q, hq⟩ = ix2 n q := by
  have hk (l : Fin 1) : ((ix1 n : (⟨1, ![N]⟩ : Shape).Idx) l).val = n.val := by
    rw [Subsingleton.elim l 0]
    rfl
  funext a
  refine Fin.ext ?_
  unfold ScatterDims.siIdx
  match a with
  | ⟨0, _⟩ =>
    rw [dif_neg (by rw [hivd]; exact (by decide : (0 : ℕ) ≠ 1))]
    exact hk _
  | ⟨1, _⟩ =>
    rw [dif_pos (by rw [hivd])]
    show d.scatterDimsToOperandDims.idxOf q = q.val
    rw [hsd]
    exact (by decide : ∀ p : Fin 2, List.idxOf p [0, 1] = p.val) q

/-- Update `n` lands where its two words, read signed, say. -/
theorem pair_lands (hiw : d.insertedWindowDims = [0, 1]) (hsd : d.scatterDimsToOperandDims = [0, 1]) (hivd : d.indexVectorDim = 1)
    (idx : IVec (⟨2, ![N, 2]⟩ : Shape) w) (n : Fin N) (r : Fin R) (c : Fin C) :
    d.resultIdx? (ix1 n) idx = some (ix2 r c) ↔ (idx (ix2 n 0)).toInt = r.val ∧ (idx (ix2 n 1)).toInt = c.val := by
  have hmem (q : Fin 2) : q ∈ d.scatterDimsToOperandDims := by rw [hsd]; exact (by decide : ∀ p : Fin 2, p ∈ [0, 1]) q
  have hwin (q : Fin 2) : d.window (ix1 n) q = 0 := by
    unfold ScatterDims.window
    rw [dif_neg fun h => (of_decide_eq_true (List.mem_filter.1 h).2) (by rw [hiw]; exact (by decide : ∀ p : Fin 2, p ∈ [0, 1]) q)]
  have hstart (q : Fin 2) : d.start (ix1 n) idx q = (idx (ix2 n q)).toInt := by
    unfold ScatterDims.start
    rw [dif_pos (hmem q), pair_word d hsd hivd]
  rw [Routing.resultIdx?_eq_some]
  constructor
  · intro h
    have h0 := h 0
    have h1 := h 1
    rw [hstart, hwin] at h0 h1
    exact ⟨by simpa using h0, by simpa using h1⟩
  · rintro ⟨h0, h1⟩ q
    rw [hstart, hwin]
    match q with
    | ⟨0, _⟩ => simpa using h0
    | ⟨1, _⟩ => simpa using h1

/-- Every index of a vector is a coordinate. -/
theorem vec_index (k : (⟨1, ![N]⟩ : Shape).Idx) : ∃ n : Fin N, k = ix1 n := by
  refine ⟨k 0, ?_⟩
  funext a
  match a with
  | ⟨0, _⟩ => rfl

/-- If update `n` is for row `n` and column `g n` and all updates are the same value, row `n` gets that value at column `g n` and
    keeps the rest. -/
theorem hot_at {α : Type} (d : ScatterDims (⟨2, ![N, C]⟩ : Shape) (⟨2, ![N, 2]⟩ : Shape) (⟨1, ![N]⟩ : Shape))
    (hiw : d.insertedWindowDims = [0, 1]) (hsd : d.scatterDimsToOperandDims = [0, 1]) (hivd : d.indexVectorDim = 1)
    (idx : IVec (⟨2, ![N, 2]⟩ : Shape) w) (g : Fin N → Fin C) (hr : ∀ n, (idx (ix2 n 0)).toInt = n.val)
    (hc : ∀ n, (idx (ix2 n 1)).toInt = (g n).val) (x : (⟨2, ![N, C]⟩ : Shape).Idx → α) (u : (⟨1, ![N]⟩ : Shape).Idx → α) (v : α)
    (hu : ∀ k, u k = v) (n : Fin N) (c : Fin C) :
    Host.scatter d (fun _ b => b) x idx u (ix2 n c) = if c = g n then v else x (ix2 n c) := by
  by_cases h : c = g n
  · rw [if_pos h]
    refine Routing.scatter_set_hit d x idx u _ v (fun k _ => hu k) (ix1 n) ?_
    rw [pair_lands d hiw hsd hivd, hr, hc, h]
    exact ⟨rfl, rfl⟩
  · rw [if_neg h]
    refine Routing.scatter_set_miss d x idx u _ fun k hk => h ?_
    obtain ⟨i, rfl⟩ := vec_index k
    rw [pair_lands d hiw hsd hivd, hr, hc] at hk
    have hn : i = n := Fin.ext (by exact_mod_cast hk.1)
    have hg : (g i).val = c.val := by exact_mod_cast hk.2
    rw [hn] at hg
    exact Fin.ext hg.symm

end Cert.Vq

end
-- ==== Proof.RefQuant.lean ====
module

public import proofs.«01_k».proof.Proof.RefDist
public import proofs.«01_k».proof.Proof.OneHot

@[expose] public section

set_option maxRecDepth 16384

noncomputable section

/-! The nearest codebook rows as the reference takes them: a matrix with a one in each row, times the codebook. -/

namespace Cert.ReferenceIdeal.Value

open Idealize.ShloMosaic Idealize.ShloMosaic.TcCoe
open Cert.ReferenceIdeal Cert.ReferenceIdeal.Gen Cert.ReferenceIdeal.Run Cert.Vq

/-- The table of the places of the ones: for each row its number and its index, an index below zero counted from the end. -/
def rTab (i : IVec S16384 32) : IVec S16384x2 32 :=
  concatenate S16384x2 1 [⟨S16384x1, (broadcastInDim S16384x1 ![0] bcast_S16384_S16384x1_0 (select (cmpi .slt (iotaInDim S16384 32 0) (broadcastInDim S16384 ![] bcast_S_S16384 (constantI S_ 32 0#32))) (addi (iotaInDim S16384 32 0) (broadcastInDim S16384 ![] bcast_S_S16384 (constantI S_ 32 16384#32))) (iotaInDim S16384 32 0)))⟩, ⟨S16384x1, (broadcastInDim S16384x1 ![0] bcast_S16384_S16384x1_0 (select (cmpi .slt i (broadcastInDim S16384 ![] bcast_S_S16384 (constantI S_ 32 0#32))) (addi i (broadcastInDim S16384 ![] bcast_S_S16384 (constantI S_ 32 1024#32))) i))⟩] concatenates_S16384x1_S16384x1_S16384x2_d1

/-- The matrix with the ones. -/
def rHot (i : IVec S16384 32) : FVec Ideal S16384x1024 .f32 :=
  Host.scatter scatter_S16384x1024_S16384x2_S16384_n_01_01_1 (fun _ b => b) (broadcastInDim S16384x1024 ![] bcast_S_S16384x1024 (constant S_ .f32 0x00000000#32)) (rTab i) (broadcastInDim S16384 ![] bcast_S_S16384 (constant S_ .f32 0x3F800000#32))

/-- The matrix times the codebook. -/
theorem zq_open (i : IVec S16384 32) (e : FVec Ideal S1024x64 .f32) :
    rZq (F := Ideal) i e = shapeCast S8x2048x64 (Host.dotGeneral dot_S16384x1024_S1024x64_S16384x64_1_0_0_1_n_n none (rHot i) e) shapeCasts_S16384x64_S8x2048x64 :=
  rfl

/-- The product, for any matrix. -/
theorem prod_at (a : FVec Ideal S16384x1024 .f32) (e : FVec Ideal S1024x64 .f32) (b : Fin 8) (t : Fin 2048) (c : Fin 64) :
    (shapeCast S8x2048x64 (Host.dotGeneral (F := Ideal) dot_S16384x1024_S1024x64_S16384x64_1_0_0_1_n_n none a e) shapeCasts_S16384x64_S8x2048x64
        : FVec Ideal S8x2048x64 .f32) (ix3 b t c)
      = ∑ k : Fin 1024, a (ix2 (flatRow b t) k) * e (ix2 k c) := by
  pointwise []

/-- A number of a row, as a word. -/
theorem toInt_small (k : ℕ) (h : k ≤ 16384) : (BitVec.ofNat 32 k).toInt = k := by
  rw [BitVec.toInt_eq_toNat_of_lt] <;> rw [BitVec.toNat_ofNat, Nat.mod_eq_of_lt (by omega)]
  omega

/-- Counting from the end changes no number of a row. -/
theorem wrap_small (k : ℕ) (h : k ≤ 16384) (a : BitVec 32) :
    Scalar.select (IntOp.cmpi .slt (BitVec.ofNat 32 k) 0#32) a (BitVec.ofNat 32 k) = BitVec.ofNat 32 k :=
  Routing.wrap_of_lt _ _ (by rw [BitVec.toNat_ofNat, Nat.mod_eq_of_lt (by omega)]; omega)

/-- The first words of the table, before they are counted from the end. -/
theorem tab_zero (i : IVec S16384 32) (n : Fin 16384) :
    rTab i (ix2 n 0) = Scalar.select (IntOp.cmpi .slt (BitVec.ofNat 32 n.val) 0#32) (IntOp.addi (BitVec.ofNat 32 n.val) 16384#32) (BitVec.ofNat 32 n.val) := by
  pointwise [rTab]

/-- The second words. -/
theorem tab_one (i : IVec S16384 32) (n : Fin 16384) :
    rTab i (ix2 n 1) = Scalar.select (IntOp.cmpi .slt (i (ix1 n)) 0#32) (IntOp.addi (i (ix1 n)) 1024#32) (i (ix1 n)) := by
  pointwise [rTab]

/-- Where the ones are. -/
theorem hot_eq (i : IVec S16384 32) (g : Fin 16384 → Fin 1024) (hi : ∀ n, i (ix1 n) = BitVec.ofNat 32 (g n).val) (n : Fin 16384)
    (k : Fin 1024) : rHot i (ix2 n k) = if k = g n then (1 : EReal) else 0 := by
  unfold rHot
  refine (hot_at scatter_S16384x1024_S16384x2_S16384_n_01_01_1 rfl rfl rfl (rTab i) g (fun n => ?_) (fun n => ?_) _ _ (1 : EReal) (fun j => ?_) n k).trans ?_
  · rw [tab_zero, wrap_small _ (by omega), toInt_small _ (by omega)]
  · rw [tab_one, hi, wrap_small _ (by omega), toInt_small _ (by omega)]
  · obtain ⟨l, rfl⟩ := vec_index j
    pointwise []
  · refine if_congr Iff.rfl rfl ?_
    pointwise []

/-- The nearest codebook row. -/
theorem zq_at (i : IVec S16384 32) (e : FVec Ideal S1024x64 .f32) (g : Fin 16384 → Fin 1024)
    (hi : ∀ n, i (ix1 n) = BitVec.ofNat 32 (g n).val) (b : Fin 8) (t : Fin 2048) (c : Fin 64) :
    rZq (F := Ideal) i e (ix3 b t c) = e (ix2 (g (flatRow b t)) c) := by
  rw [zq_open, prod_at]
  rw [Finset.sum_eq_single (g (flatRow b t))]
  · rw [hot_eq i g hi, if_pos rfl, one_mul]
  · intro k _ hk
    rw [hot_eq i g hi, if_neg hk, zero_mul]
  · exact fun h => absurd (Finset.mem_univ _) h

end Cert.ReferenceIdeal.Value

end
-- ==== Proof.Block.lean ====
module

public import proofs.«01_k».proof.Proof.Body
public import proofs.«01_k».proof.Proof.Arrays

@[expose] public section

set_option maxRecDepth 16384

noncomputable section

/-! What one block computes, over the extended reals: the block of log probabilities, the block of indices, and the
    three numbers the block adds to the accumulator. -/

namespace Cert.KernelIdeal.Value

open Idealize.ShloMosaic Idealize.ShloMosaic.TcCoe
open Cert.KernelIdeal Cert.KernelIdeal.Gen Cert.KernelIdeal.Run Cert.Vq

/-- Row `r` of the input block. -/
def bRow (x1 : FVec Ideal S1x512x64 .f32) (r : Fin 512) : Row := fun c => x1 (ix3 0 r c)

/-- Row `k` of the codebook block. -/
def bBook (x3 : FVec Ideal S1024x64 .f32) (k : Fin 1024) : Row := fun c => x3 (ix2 k c)

/-- The distances of a row of the block. -/
def bDists (x1 : FVec Ideal S1x512x64 .f32) (x3 : FVec Ideal S1024x64 .f32) (r : Fin 512) (k : Fin 1024) : EReal :=
  dist (unit (bRow x1 r)) (bBook x3 k)

/-- The normalized block. -/
theorem unit_at (x1 : FVec Ideal S1x512x64 .f32) (r : Fin 512) (c : Fin 64) :
    k0_pay3 (F := Ideal) x1 (ix2 r c) = unit (bRow x1 r) c := by
  pointwise [k0_pay3]
  rfl

/-- The block's distances. -/
theorem dist_at (x1 : FVec Ideal S1x512x64 .f32) (x3 : FVec Ideal S1024x64 .f32) (r : Fin 512) (k : Fin 1024) :
    k0_pay4 (F := Ideal) x1 x3 (ix2 r k) = bDists x1 x3 r k := by
  pointwise [k0_pay4]
  simp only [unit_at]
  rfl

/-- The block of log probabilities. -/
theorem lp_at (x0 : FVec Ideal S1 .f32) (x1 : FVec Ideal S1x512x64 .f32) (x2 : FVec Ideal S1x512x1 .f32)
    (x3 : FVec Ideal S1024x64 .f32) (r : Fin 512) (k : Fin 1024) :
    lpBlock (F := Ideal) x0 x1 x2 x3 (ix3 0 r k)
      = masked (logp (fun j => bDists x1 x3 r j * (0 - (show EReal from word (F := Ideal) x0))) k) (x2 (ix3 0 r 0)) := by
  pointwise [lpBlock, k0_pay9, k0_pay8, k0_pay7, k0_pay6, k0_pay5, k0_pay2]
  simp only [dist_at, ofBits_bot]
  rfl

/-- The block of indices. -/
theorem ix_at (x1 : FVec Ideal S1x512x64 .f32) (x3 : FVec Ideal S1024x64 .f32) (r : Fin 512) :
    ixBlock (F := Ideal) x1 x3 (ix3 0 r 0) = BitVec.ofNat 32 (first (bDists x1 x3 r)).val := by
  pointwise [ixBlock, k0_pay11, k0_pay10]
  simp only [dist_at, ofBits_top]
  rw [show (Finset.univ.fold min ⊤ fun k => bDists x1 x3 r k) = _ from fold_min (bDists x1 x3 r)]
  exact fold_first (bDists x1 x3 r)

/-- The mask of the block, without its unit axis. -/
theorem mask_at (x2 : FVec Ideal S1x512x1 .f32) (r : Fin 512) : k0_pay2 (F := Ideal) x2 (ix2 r 0) = x2 (ix3 0 r 0) := by
  pointwise [k0_pay2]

/-- The sum of the rows' minima under a mask, for any distances and mask. -/
theorem minima_eq (v : FVec Ideal S512x1 .f32) (d : FVec Ideal S512x1024 .f32) :
    k0_pay12 (F := Ideal) v d = ∑ r : Fin 512, Finset.univ.fold min ⊤ (fun k : Fin 1024 => d (ix2 r k)) * v (ix2 r 0) := by
  pointwise [k0_pay12, k0_pay10]
  refine Finset.sum_congr rfl fun r _ => ?_
  rw [Fin.sum_univ_one, ofBits_top]

/-- The block's share of the commitment loss. -/
theorem com_eq (x1 : FVec Ideal S1x512x64 .f32) (x2 : FVec Ideal S1x512x1 .f32) (x3 : FVec Ideal S1024x64 .f32) :
    k0_pay12 (F := Ideal) (k0_pay2 x2) (k0_pay4 x1 x3)
      = ∑ r : Fin 512, bDists x1 x3 r (first (bDists x1 x3 r)) * x2 (ix3 0 r 0) :=
  (minima_eq _ _).trans (Finset.sum_congr rfl fun r _ => Ideal.mul_congr
    ((congrArg (fun f => Finset.univ.fold min ⊤ f) (funext fun k => dist_at x1 x3 r k)).trans (fold_min (bDists x1 x3 r)))
    (mask_at x2 r))

/-- The differences of the block's rows after its first. -/
theorem gaps_eq (x1 : FVec Ideal S1x512x64 .f32) (x2 : FVec Ideal S1x512x1 .f32) :
    k0_pay13 (F := Ideal) (k0_pay2 x2) (k0_pay3 x1)
      = ∑ r : Fin 511, step (unit (bRow x1 ⟨1 + r.val, by omega⟩)) (unit (bRow x1 ⟨r.val, by omega⟩))
          (x2 (ix3 0 ⟨1 + r.val, by omega⟩ 0)) := by
  pointwise [k0_pay13, k0_pay2]
  simp only [unit_at, Finset.univ_unique, Finset.sum_singleton]
  rfl

/-- The row handed on is the block's last, normalized. -/
theorem last_at (x1 : FVec Ideal S1x512x64 .f32) (c : Fin 64) :
    lastRow (F := Ideal) x1 (ix2 0 c) = unit (bRow x1 511) c := by
  unfold lastRow
  pointwise [k0_pay14]
  exact unit_at x1 511 c

/-- The three lanes of what a block adds, for any numbers `p` and `q`: the first holds `p`. -/
theorem lane_zero (a : BitVec 32) (v : FVec Ideal S512x1 .f32) (d : FVec Ideal S512x64 .f32) (p q : EReal) (y : FVec Ideal S1x64 .f32) :
    k0_pay15 (F := Ideal) a v d p q y (ix2 0 0) = p := by
  pointwise [k0_pay15]
  simp [Scalar.select, IntOp.cmpi]

/-- The second holds `q` and the first row's difference from the row carried over, unless the block starts a batch. -/
theorem lane_one (a : BitVec 32) (v : FVec Ideal S512x1 .f32) (d : FVec Ideal S512x64 .f32) (p q : EReal) (y : FVec Ideal S1x64 .f32) :
    k0_pay15 (F := Ideal) a v d p q y (ix2 0 1)
      = q + Scalar.select (Scalar.cmpi .sgt a 0#32) (step (fun c => d (ix2 0 c)) (fun c => y (ix2 0 c)) (v (ix2 0 0))) 0 := by
  pointwise [k0_pay15]
  simp only [Fin.sum_univ_one]
  simp [Scalar.select, IntOp.cmpi, step]

/-- The third holds the mask's sum. -/
theorem lane_two (a : BitVec 32) (v : FVec Ideal S512x1 .f32) (d : FVec Ideal S512x64 .f32) (p q : EReal) (y : FVec Ideal S1x64 .f32) :
    k0_pay15 (F := Ideal) a v d p q y (ix2 0 2) = ∑ r : Fin 512, v (ix2 r 0) := by
  pointwise [k0_pay15]
  simp only [Fin.sum_univ_one]
  simp [Scalar.select, IntOp.cmpi]

/-- The accumulator's first lane: the block's smallest distances under the mask. -/
theorem part_zero (i : grid0.Coords) (x1 : FVec Ideal S1x512x64 .f32) (x2 : FVec Ideal S1x512x1 .f32)
    (x3 : FVec Ideal S1024x64 .f32) (y : FVec Ideal S1x64 .f32) :
    part (F := Ideal) i x1 x2 x3 y (ix2 0 0)
      = ∑ r : Fin 512, bDists x1 x3 r (first (bDists x1 x3 r)) * x2 (ix3 0 r 0) :=
  (lane_zero _ _ _ _ _ _).trans (com_eq x1 x2 x3)

/-- Its second lane: the rows' differences under the mask, the first row's from the row carried over unless the block
    starts a batch. -/
theorem part_one (i : grid0.Coords) (x1 : FVec Ideal S1x512x64 .f32) (x2 : FVec Ideal S1x512x1 .f32)
    (x3 : FVec Ideal S1024x64 .f32) (y : FVec Ideal S1x64 .f32) :
    part (F := Ideal) i x1 x2 x3 y (ix2 0 1)
      = (∑ r : Fin 511, step (unit (bRow x1 ⟨1 + r.val, by omega⟩)) (unit (bRow x1 ⟨r.val, by omega⟩))
          (x2 (ix3 0 ⟨1 + r.val, by omega⟩ 0)))
        + if (i 1).val = 0 then 0 else step (unit (bRow x1 0)) (fun c => y (ix2 0 c)) (x2 (ix3 0 0 0)) := by
  refine (lane_one _ _ _ _ _ _).trans (Ideal.add_congr (gaps_eq x1 x2) ?_)
  rw [show (fun c => k0_pay3 (F := Ideal) x1 (ix2 0 c)) = unit (bRow x1 0) from funext fun c => unit_at x1 0 c, mask_at x2 0]
  have h : (i 1).val < 4 := (i 1).isLt
  by_cases h0 : (i 1).val = 0
  · rw [if_pos h0, h0]; rfl
  · rw [if_neg h0]
    have : Scalar.cmpi .sgt (BitVec.ofNat 32 (i 1).val) 0#32 = 1#1 := by
      generalize (i 1).val = n at h h0
      interval_cases n <;> first | exact absurd rfl h0 | decide
    rw [this]; rfl

/-- Its third lane: the mask. -/
theorem part_two (i : grid0.Coords) (x1 : FVec Ideal S1x512x64 .f32) (x2 : FVec Ideal S1x512x1 .f32)
    (x3 : FVec Ideal S1024x64 .f32) (y : FVec Ideal S1x64 .f32) :
    part (F := Ideal) i x1 x2 x3 y (ix2 0 2) = ∑ r : Fin 512, x2 (ix3 0 r 0) :=
  (lane_two _ _ _ _ _ _).trans (Finset.sum_congr rfl fun r _ => mask_at x2 r)

end Cert.KernelIdeal.Value

end
-- ==== Proof.Blocks.lean ====
module

public import proofs.«01_k».proof.Proof.Run
public import proofs.«01_k».proof.Proof.Block

@[expose] public section

set_option maxRecDepth 16384

noncomputable section

/-! Which part of the argument arrays each block of a point is, and the arrays of log probabilities and indices the
    launch leaves. -/

namespace Cert.KernelIdeal.Value

open Idealize.ShloMosaic Idealize.ShloMosaic.TcCoe
open Idealize.ShloMosaic.Pipeline (Dat)
open Cert.KernelIdeal Cert.KernelIdeal.Gen Cert.KernelIdeal.Run Cert.Vq

variable (m : (ℓ : Loc nD τ sig) → Buf (Elt Ideal) ℓ)

/-- The argument arrays. -/
abbrev zA (c : Dev nD) : ZArr := m ((c : Thread nD τ).loc main_arg0)
abbrev mA (c : Dev nD) : MArr := m ((c : Thread nD τ).loc main_arg1)
abbrev wA (c : Dev nD) : WArr := m ((c : Thread nD τ).loc main_arg2)
abbrev sA (c : Dev nD) : BitVec 32 := (show IVec (⟨0, ![]⟩ : Shape) 32 from m ((c : Thread nD τ).loc main_arg3)) ix0

/-- Where each window's block lies at a point. -/
theorem idx : ∀ t : Fin cfg0.N, win0_0.index t = ![0] ∧ win0_1.index t = ![t.val / 4, t.val % 4, 0]
    ∧ win0_2.index t = ![t.val / 4, t.val % 4, 0] ∧ win0_3.index t = ![0, 0] ∧ win0_4.index t = ![t.val / 4, t.val % 4, 0]
    ∧ win0_5.index t = ![t.val / 4, t.val % 4, 0] ∧ win0_6.index t = ![0, 0] ∧ t.val < 32
    ∧ (grid0.coords t 1).val = t.val % 4 :=
  (by decide +kernel : ∀ t : Fin grid0.N, _)

/-- There are 32 points. -/
theorem pt (t : Fin cfg0.N) : t.val < 32 := (idx t).2.2.2.2.2.2.2.1

/-- The batch entry of a point, and the array row of a row of its block. -/
abbrev bat (t : Fin cfg0.N) : Fin 8 := ⟨t.val / 4, by have := pt t; omega⟩
abbrev row (t : Fin cfg0.N) (r : Fin 512) : Fin 2048 := ⟨t.val % 4 * 512 + r.val, by omega⟩

/-- A row of the input block. -/
theorem z_block (c : Dev nD) (t : Fin cfg0.N) (r : Fin 512) :
    bRow (iblk m c 1 t) r = zRow (zA m c) (bat t) (row t r) := by
  funext k
  unfold bRow zRow
  blk_ext [iblk, V, idx t]

/-- An entry of the mask's block. -/
theorem m_block (c : Dev nD) (t : Fin cfg0.N) (r : Fin 512) :
    (show FVec Ideal S1x512x1 .f32 from iblk m c 2 t) (ix3 0 r 0) = mA m c (ix3 (bat t) (row t r) 0) := by
  blk_ext [iblk, V, idx t]

/-- The codebook rows in use, as the operations before the region leave them. -/
theorem rows_after (σ : Valuation τ sig (Elt Ideal)) : StableHlo.after hostOps0 σ (main_v0 : DevRef τ sig)
    = extractStridedSlice S1024x64 ![1, 0] (σ (main_arg2 : DevRef τ sig)) slices_S1025x64_S1024x64_1_0 := by
  after_results

/-- The scale, as the operations before the region leave it. -/
theorem scale_after (σ : Valuation τ sig (Elt Ideal)) : StableHlo.after hostOps0 σ (main_v3 : DevRef τ sig)
    = shapeCast S1 (Host.divf (sitofp (F := Ideal) .f32 (σ (main_arg3 : DevRef τ sig))) (constant S_ .f32 0x3F800000#32)) shapeCasts_S_S1 := by
  after_results
  rfl

/-- The codebook rows in use, as the region finds them. -/
theorem rows_eq (c : Dev nD) : V m c main_v0
    = extractStridedSlice S1024x64 ![1, 0] (m ((c : Thread nD τ).loc main_arg2)) slices_S1025x64_S1024x64_1_0 :=
  rows_after fun b => m (c, b)

/-- The scale, as the region finds it. -/
theorem scale_eq (c : Dev nD) : V m c main_v3
    = shapeCast S1 (Host.divf (sitofp (F := Ideal) .f32 (m ((c : Thread nD τ).loc main_arg3))) (constant S_ .f32 0x3F800000#32)) shapeCasts_S_S1 :=
  scale_after fun b => m (c, b)

/-- The codebook rows in use are rows 1 and on. -/
theorem rows_at (w : WArr) (k : Fin 1024) (j : Fin 64) :
    extractStridedSlice S1024x64 ![1, 0] w slices_S1025x64_S1024x64_1_0 (ix2 k j) = book w k j := by
  unfold book
  pointwise

/-- A number divided by one is the number. -/
theorem div_unit (x : EReal) : Ideal.div x 1 = x := by
  rw [show (1 : EReal) = ((1 : ℝ) : EReal) from rfl]
  simp [Ideal.div]

/-- The scale is the step. -/
theorem scale_at (s : IVec S_ 32) (y : S1.Idx) :
    shapeCast S1 (Host.divf (sitofp (F := Ideal) .f32 s) (constant S_ .f32 0x3F800000#32)) shapeCasts_S_S1 y = stepOf (s ix0) := by
  pointwise
  exact div_unit _

/-- A row of the codebook's block. -/
theorem w_block (c : Dev nD) (t : Fin cfg0.N) : bBook (iblk m c 3 t) = book (wA m c) := by
  funext k j
  refine Eq.trans ?_ ((congrFun (rows_eq m c) (ix2 k j)).trans (rows_at (wA m c) k j))
  unfold bBook
  blk_ext [iblk, idx t]

/-- The word of the scale's block. -/
theorem s_block (c : Dev nD) (t : Fin cfg0.N) : (show EReal from word (F := Ideal) (iblk m c 0 t)) = stepOf (sA m c) := by
  refine Eq.trans ?_ ((congrFun (scale_eq m c) (ix1 0)).trans (scale_at _ _))
  unfold word
  blk_ext [iblk, idx t]

/-- The distances of a row of the block. -/
theorem d_block (c : Dev nD) (t : Fin cfg0.N) (r : Fin 512) :
    bDists (iblk m c 1 t) (iblk m c 3 t) r = dists (zA m c) (wA m c) (bat t) (row t r) := by
  funext k
  unfold bDists dists
  rw [z_block, w_block]

end Cert.KernelIdeal.Value

end
-- ==== Proof.Lanes.lean ====
module

public import proofs.«01_k».proof.Proof.Blocks

@[expose] public section

set_option maxRecDepth 16384

noncomputable section

/-! The three lanes of the accumulator after the last point: the sums, over all rows of the input, of the smallest
    distances, of the differences of neighbouring rows, and of the mask. -/

namespace Cert.KernelIdeal.Value

open Idealize.ShloMosaic Idealize.ShloMosaic.TcCoe
open Idealize.ShloMosaic.Pipeline (Dat)
open Cert.KernelIdeal Cert.KernelIdeal.Gen Cert.KernelIdeal.Run Cert.Vq

variable (m : (ℓ : Loc nD τ sig) → Buf (Elt Ideal) ℓ)

/-- What a point adds to the first lane. -/
theorem point_zero (c : Dev nD) (t : Fin cfg0.N) :
    partAt m c t.val t.isLt (ix2 0 0) = ∑ r : Fin 512, comAt (zA m c) (mA m c) (wA m c) (bat t) (row t r) := by
  unfold partAt
  refine (part_zero _ _ _ _ _).trans (Finset.sum_congr rfl fun r _ => ?_)
  unfold comAt
  rw [d_block]
  exact congrArg _ (m_block m c t r)

/-- What a point adds to the third lane. -/
theorem point_two (c : Dev nD) (t : Fin cfg0.N) :
    partAt m c t.val t.isLt (ix2 0 2) = ∑ r : Fin 512, mA m c (ix3 (bat t) (row t r) 0) := by
  unfold partAt
  exact (part_two _ _ _ _ _).trans (Finset.sum_congr rfl fun r _ => m_block m c t r)

/-- A row's contribution to the second lane when it is not the first of its batch. -/
theorem gap_later (z : ZArr) (k : MArr) (b : Fin 8) (i j : Fin 2048) (h : i.val = j.val + 1) :
    gapAt z k b i = step (unit (zRow z b i)) (unit (zRow z b j)) (k (ix3 b i 0)) := by
  unfold gapAt
  rw [dif_neg (by omega)]
  rw [show (⟨i.val - 1, by omega⟩ : Fin 2048) = j from Fin.ext (by show i.val - 1 = j.val; omega)]

/-- The first row of a batch contributes nothing to the second lane. -/
theorem gap_start (z : ZArr) (k : MArr) (b : Fin 8) (i : Fin 2048) (h : i.val = 0) : gapAt z k b i = 0 := dif_pos h

/-- The row carried into a block that does not start a batch is the row before the block's first. -/
theorem carried_eq (c : Dev nD) (t : Fin cfg0.N) (h : t.val % 4 ≠ 0) :
    (fun k => carried m c t.val t.isLt (ix2 0 k)) = unit (zRow (zA m c) (bat t) ⟨t.val % 4 * 512 - 1, by omega⟩) := by
  funext k
  unfold carried
  refine (last_at _ k).trans ?_
  rw [z_block]
  have hb : bat ⟨t.val - 1, by have := t.isLt; omega⟩ = bat t := Fin.ext (by show (t.val - 1) / 4 = t.val / 4; omega)
  have hr : row ⟨t.val - 1, by have := t.isLt; omega⟩ 511 = ⟨t.val % 4 * 512 - 1, by omega⟩ :=
    Fin.ext (by show (t.val - 1) % 4 * 512 + 511 = t.val % 4 * 512 - 1; omega)
  rw [hb, hr]

/-- The sum over the rows of a block, its first row apart. -/
theorem block_split (g : Fin 512 → EReal) : ∑ r, g r = (∑ r : Fin 511, g ⟨1 + r.val, by omega⟩) + g 0 := by
  rw [Fin.sum_univ_succ (n := 511) g, add_comm]
  exact Ideal.add_congr (Finset.sum_congr rfl fun r _ => congrArg g (Fin.ext (Nat.add_comm r.val 1))) rfl

/-- What a point adds to the second lane. -/
theorem point_one (c : Dev nD) (t : Fin cfg0.N) :
    partAt m c t.val t.isLt (ix2 0 1) = ∑ r : Fin 512, gapAt (zA m c) (mA m c) (bat t) (row t r) := by
  unfold partAt
  refine (part_one _ _ _ _ _).trans (Eq.trans ?_ (block_split fun r => gapAt (zA m c) (mA m c) (bat t) (row t r)).symm)
  have first_row : (if (grid0.coords t 1).val = 0 then 0
        else step (unit (bRow (iblk m c 1 t) 0)) (fun k => carried m c t.val t.isLt (ix2 0 k))
          ((show FVec Ideal S1x512x1 .f32 from iblk m c 2 t) (ix3 0 0 0)))
      = gapAt (zA m c) (mA m c) (bat t) (row t 0) := by
    have hc : (grid0.coords t 1).val = t.val % 4 := (idx t).2.2.2.2.2.2.2.2
    by_cases h : t.val % 4 = 0
    · rw [if_pos (hc.trans h)]
      exact (gap_start _ _ (bat t) (row t 0) (show t.val % 4 * 512 + 0 = 0 by omega)).symm
    · rw [if_neg (fun e => h (hc.symm.trans e)), z_block, carried_eq m c t h, m_block]
      rw [gap_later _ _ (bat t) (row t 0) ⟨t.val % 4 * 512 - 1, by omega⟩ (show t.val % 4 * 512 + 0 = t.val % 4 * 512 - 1 + 1 by omega)]
  refine Ideal.add_congr (Finset.sum_congr rfl fun r _ => ?_) first_row
  rw [gap_later _ _ (bat t) (row t ⟨1 + r.val, by omega⟩) (row t ⟨r.val, by omega⟩)
    (show t.val % 4 * 512 + (1 + r.val) = t.val % 4 * 512 + r.val + 1 by omega)]
  rw [← z_block m c t, ← z_block m c t, ← m_block m c t]

/-- One step of the accumulator. -/
theorem add_at (a b : FVec Ideal S1x128 .f32) (l : Fin 128) : k0_pay1 (F := Ideal) a b (ix2 0 l) = b (ix2 0 l) + a (ix2 0 l) := by
  pointwise [k0_pay1]

/-- A lane of the accumulator after a point is the sum of what the points so far add to it. -/
theorem lane_sum (c : Dev nD) (l : Fin 128) (n : ℕ) (h : n < cfg0.N) :
    accSum m c n h (ix2 0 l) = ∑ p : Fin (n + 1), partAt m c p.val (by omega) (ix2 0 l) := by
  induction n with
  | zero => rw [Fin.sum_univ_one]; rfl
  | succ n ih =>
    rw [Fin.sum_univ_castSucc]
    exact (add_at _ _ l).trans (Ideal.add_congr (ih (by omega)) rfl)

/-- The last point. -/
abbrev lastPt : Fin cfg0.N := ⟨31, by decide +kernel⟩

/-- If a point adds the sum of its rows' contributions to a lane, the lane ends at the sum over all rows. -/
theorem lane_total (c : Dev nD) (l : Fin 128) (g : Fin 8 → Fin 2048 → EReal)
    (hg : ∀ t : Fin cfg0.N, partAt m c t.val t.isLt (ix2 0 l) = ∑ r : Fin 512, g (bat t) (row t r)) :
    accSum m c lastPt.val lastPt.isLt (ix2 0 l) = ∑ b : Fin 8, ∑ t : Fin 2048, g b t := by
  refine (lane_sum m c l 31 lastPt.isLt).trans (Eq.trans (Finset.sum_congr rfl fun p _ => hg ⟨p.val, lt_of_lt_of_le p.isLt lastPt.isLt⟩) ?_)
  exact Fin.sum_points_lanes_congr (N := 32) (n := 512) (A := 8) (L := 2048) 4 fun t k ha hl => rfl

/-- The accumulator's array after the launch, at a lane. -/
theorem acc_array (c : Dev nD) : (dats m 0 c).arrAt 6 (cfgs 0).N = accSum m c lastPt.val lastPt.isLt := by
  refine (dats m 0 c).arrAt_eq_of_after_last 6 lastPt (by decide +kernel) _ fun j => ?_
  blk_simp
  rw [after_6]

/-- The accumulator's array after the launch, in its first three lanes. -/
theorem acc_zero (c : Dev nD) : (show FVec Ideal S1x128 .f32 from (dats m 0 c).arrAt 6 (cfgs 0).N) (ix2 0 0)
    = ∑ b : Fin 8, ∑ t : Fin 2048, comAt (zA m c) (mA m c) (wA m c) b t := by
  rw [acc_array]; exact lane_total m c 0 _ (point_zero m c)

theorem acc_one (c : Dev nD) : (show FVec Ideal S1x128 .f32 from (dats m 0 c).arrAt 6 (cfgs 0).N) (ix2 0 1)
    = ∑ b : Fin 8, ∑ t : Fin 2048, gapAt (zA m c) (mA m c) b t := by
  rw [acc_array]; exact lane_total m c 1 _ (point_one m c)

theorem acc_two (c : Dev nD) : (show FVec Ideal S1x128 .f32 from (dats m 0 c).arrAt 6 (cfgs 0).N) (ix2 0 2)
    = ∑ b : Fin 8, ∑ t : Fin 2048, mA m c (ix3 b t 0) := by
  rw [acc_array]; exact lane_total m c 2 (fun b t => mA m c (ix3 b t 0)) (point_two m c)

end Cert.KernelIdeal.Value

end
-- ==== Proof.RefLoss.lean ====
module

public import proofs.«01_k».proof.Proof.RefQuant
public import proofs.«01_k».proof.Proof.Lanes

@[expose] public section

set_option maxRecDepth 16384

noncomputable section

/-! The reference's two losses, for a mask of zeros and ones and a codebook of finite numbers. -/

namespace Cert.ReferenceIdeal.Value

open Idealize.ShloMosaic Idealize.ShloMosaic.TcCoe
open Cert.ReferenceIdeal Cert.ReferenceIdeal.Gen Cert.ReferenceIdeal.Run Cert.Vq

/-- The commitment loss of any two arrays. -/
theorem commit_at (z q : ZArr) (k : MArr) :
    rCommit (F := Ideal) z q k ix0 = meanOf k (∑ b : Fin 8, ∑ t : Fin 2048, ∑ c : Fin 64,
      (z (ix3 b t c) - q (ix3 b t c) * k (ix3 b t 0)) * (z (ix3 b t c) - q (ix3 b t c) * k (ix3 b t 0)) * k (ix3 b t 0)) := by
  unfold meanOf
  pointwise [rCommit]
  simp only [Fin.sum_univ_one, Fin.isValue]

/-- The smoothness loss of any array. -/
theorem smooth_at (z : ZArr) (k : MArr) :
    rSmooth (F := Ideal) z k ix0 = meanOf k (∑ b : Fin 8, ∑ t : Fin 2047, ∑ c : Fin 64,
      (z (ix3 b ⟨t.val, by omega⟩ c) - z (ix3 b ⟨1 + t.val, by omega⟩ c)) * (z (ix3 b ⟨t.val, by omega⟩ c) - z (ix3 b ⟨1 + t.val, by omega⟩ c))
        * k (ix3 b ⟨1 + t.val, by omega⟩ 0)) := by
  unfold meanOf
  pointwise [rSmooth]
  simp only [Fin.sum_univ_one, Fin.isValue]

/-- The row of the flat array that holds row `t` of batch `b`. -/
theorem flat_split (b : Fin 8) (t : Fin 2048) :
    ((⟨(flatRow b t).val / 2048, by omega⟩ : Fin 8) = b) ∧ ((⟨(flatRow b t).val % 2048, by omega⟩ : Fin 2048) = t) := by
  unfold flatRow
  exact ⟨Fin.ext (by show (b.val * 2048 + t.val) / 2048 = b.val; omega), Fin.ext (by show (b.val * 2048 + t.val) % 2048 = t.val; omega)⟩

/-- The nearest codebook row of every row. -/
theorem quant_at (z : ZArr) (w : WArr) (b : Fin 8) (t : Fin 2048) (c : Fin 64) :
    rZq (F := Ideal) (rIdx (F := Ideal) (rDist (F := Ideal) (rZn (F := Ideal) z) (rBook (F := Ideal) w))) (rBook (F := Ideal) w) (ix3 b t c)
      = book w (first (dists z w b t)) c := by
  rw [zq_at _ _ (fun n => first (dists z w ⟨n.val / 2048, by omega⟩ ⟨n.val % 2048, by omega⟩)) (fun n => ix_eq z w n), book_at,
    (flat_split b t).1, (flat_split b t).2]

/-- The commitment loss. -/
theorem commit_eq (z : ZArr) (k : MArr) (w : WArr) (hk : ∀ b t, k (ix3 b t 0) = 0 ∨ k (ix3 b t 0) = 1)
    (hw : ∀ j c, ∃ r : ℝ, book w j c = r) :
    rCommit (F := Ideal) (rZn (F := Ideal) z)
        (rZq (F := Ideal) (rIdx (F := Ideal) (rDist (F := Ideal) (rZn (F := Ideal) z) (rBook (F := Ideal) w))) (rBook (F := Ideal) w)) k ix0
      = meanOf k (∑ b : Fin 8, ∑ t : Fin 2048, comAt z k w b t) := by
  refine (commit_at _ _ k).trans (congrArg (meanOf k) (Finset.sum_congr rfl fun b _ => Finset.sum_congr rfl fun t _ => ?_))
  refine Eq.trans (Finset.sum_congr rfl fun c _ => ?_) (commit_row (zRow z b t) (book w (first (dists z w b t))) (k (ix3 b t 0)) (hk b t) (hw _))
  rw [quant_at, zn_at]

/-- The smoothness loss. -/
theorem smooth_eq (z : ZArr) (k : MArr) (hk : ∀ b t, k (ix3 b t 0) = 0 ∨ k (ix3 b t 0) = 1) :
    rSmooth (F := Ideal) (rZn (F := Ideal) z) k ix0 = meanOf k (∑ b : Fin 8, ∑ t : Fin 2048, gapAt z k b t) := by
  refine (smooth_at _ k).trans (congrArg (meanOf k) (Finset.sum_congr rfl fun b _ => ?_))
  rw [Fin.sum_univ_succ (n := 2047) fun t => gapAt z k b t, KernelIdeal.Value.gap_start z k b 0 rfl, zero_add]
  refine Finset.sum_congr rfl fun t _ => ?_
  have e : (⟨1 + t.val, by omega⟩ : Fin 2048) = t.succ := Fin.ext (Nat.add_comm _ _)
  rw [KernelIdeal.Value.gap_later z k b t.succ ⟨t.val, by omega⟩ rfl, ← step_eq _ _ _ (hk b t.succ), e]
  refine Finset.sum_congr rfl fun c _ => ?_
  rw [zn_at, zn_at]

end Cert.ReferenceIdeal.Value

end
-- ==== Proof.Outputs.lean ====
module

public import proofs.«01_k».proof.Proof.Blocks

@[expose] public section

set_option maxRecDepth 16384

noncomputable section

/-! The arrays of log probabilities and of indices that the launch leaves. -/

namespace Cert.KernelIdeal.Value

open Idealize.ShloMosaic Idealize.ShloMosaic.TcCoe
open Idealize.ShloMosaic.Pipeline (Dat)
open Cert.KernelIdeal Cert.KernelIdeal.Gen Cert.KernelIdeal.Run Cert.Vq

variable (m : (ℓ : Loc nD τ sig) → Buf (Elt Ideal) ℓ)

/-- The array of log probabilities. -/
def lpArr (z : ZArr) (k : MArr) (w : WArr) (s : BitVec 32) : FVec Ideal S8x2048x1024 .f32 :=
  fun j => lpAt z k w s (j 0) (j 1) (j 2)

/-- The array of indices. -/
def ixArr (z : ZArr) (w : WArr) : IVec S8x2048x1 32 := fun j => ixAt z w (j 0) (j 1)

/-- The block of log probabilities of a point. -/
theorem lp_block (c : Dev nD) (t : Fin cfg0.N) (r : Fin 512) (k : Fin 1024) :
    lpBlock (F := Ideal) (iblk m c 0 t) (iblk m c 1 t) (iblk m c 2 t) (iblk m c 3 t) (ix3 0 r k)
      = lpAt (zA m c) (mA m c) (wA m c) (sA m c) (bat t) (row t r) k := by
  refine (lp_at _ _ _ _ r k).trans ?_
  unfold lpAt
  rw [d_block, s_block]
  exact congrArg _ (m_block m c t r)

/-- The block of indices of a point. -/
theorem ix_block (c : Dev nD) (t : Fin cfg0.N) (r : Fin 512) :
    ixBlock (F := Ideal) (iblk m c 1 t) (iblk m c 3 t) (ix3 0 r 0) = ixAt (zA m c) (wA m c) (bat t) (row t r) := by
  refine (ix_at _ _ r).trans ?_
  unfold ixAt
  rw [d_block]

/-- The launch leaves the array of log probabilities. -/
theorem final_lp (c : Dev nD) : (dats m 0 c).arrAt 4 (cfgs 0).N = lpArr (zA m c) (mA m c) (wA m c) (sA m c) := by
  refine (dats m 0 c).arrAt_eq_of_covers 4 _ (by decide +kernel) fun t _ y => ?_
  have he : ((cfg0.win 4).blk t).view.emb y = ix3 (bat t) (row t (y 1)) (y 2) := by blk_ext [idx t]
  have hy : y = ix3 0 (y 1) (y 2) := by blk_ext
  blk_simp
  rw [after_4]
  refine Eq.trans (congrArg _ hy) ((lp_block m c t (y 1) (y 2)).trans ?_)
  exact (congrArg (lpArr (zA m c) (mA m c) (wA m c) (sA m c)) he).symm

/-- The launch leaves the array of indices. -/
theorem final_ix (c : Dev nD) : (dats m 0 c).arrAt 5 (cfgs 0).N = ixArr (zA m c) (wA m c) := by
  refine (dats m 0 c).arrAt_eq_of_covers 5 _ (by decide +kernel) fun t _ y => ?_
  have he : ((cfg0.win 5).blk t).view.emb y = ix3 (bat t) (row t (y 1)) 0 := by blk_ext [idx t]
  have hy : y = ix3 0 (y 1) 0 := by blk_ext
  blk_simp
  rw [after_5]
  refine Eq.trans (congrArg _ hy) ((ix_block m c t (y 1)).trans ?_)
  exact (congrArg (ixArr (zA m c) (wA m c)) he).symm

end Cert.KernelIdeal.Value

end
-- ==== Proof.Tail.lean ====
module

public import proofs.«01_k».proof.Proof.Outputs
public import proofs.«01_k».proof.Proof.Lanes

@[expose] public section

set_option maxRecDepth 16384

noncomputable section

/-! The operations after the launch, and the run of the whole program with its four results. -/

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Run Cert.Vq

variable (m : (ℓ : Loc nD τ sig) → Buf (Elt Ideal) ℓ)

/-- The count of unmasked entries from the accumulator's third lane. -/
def validOf (a : FVec Ideal S1x128 .f32) : FVec Ideal S_ .f32 :=
  mulf (shapeCast S_ (extractStridedSlice S1x1 ![0, 2] a slices_S1x128_S1x1_0_2) shapeCasts_S1x1_S_) (constant S_ .f32 0x42800000#32)

/-- The smoothness loss from the accumulator. -/
def smoothOf (a : FVec Ideal S1x128 .f32) : FVec Ideal S_ .f32 :=
  Host.divf (shapeCast S_ (extractStridedSlice S1x1 ![0, 1] a slices_S1x128_S1x1_0_1) shapeCasts_S1x1_S_) (validOf a)

/-- The commitment loss from the accumulator. -/
def commitOf (a : FVec Ideal S1x128 .f32) : FVec Ideal S_ .f32 :=
  Host.divf (shapeCast S_ (extractStridedSlice S1x1 ![0, 0] a slices_S1x128_S1x1_0_0) shapeCasts_S1x1_S_) (validOf a)

/-- The indices as a flat array. -/
def flatOf (x : IVec S8x2048x1 32) : IVec S16384 32 := shapeCast S16384 x shapeCasts_S8x2048x1_S16384

/-- The smoothness loss after the operations that follow the launch. -/
theorem smooth_after (σ : Valuation τ sig (Elt Ideal)) :
    StableHlo.after hostOps1 σ (main_v13 : DevRef τ sig) = smoothOf (σ (main_v4_2 : DevRef τ sig)) := by
  after_results
  rfl

/-- The commitment loss after them. -/
theorem commit_after (σ : Valuation τ sig (Elt Ideal)) :
    StableHlo.after hostOps1 σ (main_v10 : DevRef τ sig) = commitOf (σ (main_v4_2 : DevRef τ sig)) := by
  after_results
  rfl

/-- The flat indices after them. -/
theorem flat_after (σ : Valuation τ sig (Elt Ideal)) :
    StableHlo.after hostOps1 σ (main_v14 : DevRef τ sig) = flatOf (σ (main_v4_1 : DevRef τ sig)) := by
  after_results
  rfl

/-- The smoothness loss: the second lane over the third times the row length. -/
theorem smooth_at (a : FVec Ideal S1x128 .f32) (y : S_.Idx) :
    smoothOf a y = Ideal.div (a (ix2 0 1)) (a (ix2 0 2) * Ideal.ofBits .f32 0x42800000#32) := by
  pointwise [smoothOf, validOf]

/-- The commitment loss: the first lane over the third times the row length. -/
theorem commit_at (a : FVec Ideal S1x128 .f32) (y : S_.Idx) :
    commitOf a y = Ideal.div (a (ix2 0 0)) (a (ix2 0 2) * Ideal.ofBits .f32 0x42800000#32) := by
  pointwise [commitOf, validOf]

/-- The flat array of indices, at a position. -/
theorem flat_at (x : IVec S8x2048x1 32) (n : Fin 16384) :
    flatOf x (ix1 n) = x (ix3 ⟨n.val / 2048, by omega⟩ ⟨n.val % 2048, by omega⟩ 0) := by
  pointwise [flatOf]

/-- The contents of every buffer when the launch ends. -/
abbrev Vend (c : Dev nD) : Valuation τ sig (Elt Ideal) :=
  Pipeline.withArrays (cfgs 0).spec c (V0 m c) fun w => (dats m 0 c).arrAt w (cfgs 0).N

/-- No two windows stage the same array. -/
theorem arrays_distinct : Function.Injective (Pipeline.arrRef spec0) := by decide

/-- The accumulator's array when the launch ends, -/
theorem end_acc (c : Dev nD) : Vend m c (main_v4_2 : DevRef τ sig) = (dats m 0 c).arrAt 6 (cfgs 0).N :=
  Pipeline.withArrays_arr _ arrays_distinct c _ _ 6

/-- and the array of indices. -/
theorem end_ix (c : Dev nD) : Vend m c (main_v4_1 : DevRef τ sig) = (dats m 0 c).arrAt 5 (cfgs 0).N :=
  Pipeline.withArrays_arr _ arrays_distinct c _ _ 5

/-- The smoothness loss at the end. -/
theorem smooth_end (c : Dev nD) : Pipeline.afterTail₀ cfgs (dats m) 0 (V0 m) [hostOps1] c main_v13
    = fun _ => meanOf (mA m c) (∑ b : Fin 8, ∑ t : Fin 2048, gapAt (zA m c) (mA m c) b t) := by
  refine (smooth_after (Vend m c)).trans ?_
  rw [end_acc]
  funext y
  refine (smooth_at _ y).trans ?_
  unfold meanOf
  exact congrArg₂ (fun p q => Ideal.div p (q * Ideal.ofBits .f32 0x42800000#32)) (acc_one m c) (acc_two m c)

/-- The commitment loss at the end. -/
theorem commit_end (c : Dev nD) : Pipeline.afterTail₀ cfgs (dats m) 0 (V0 m) [hostOps1] c main_v10
    = fun _ => meanOf (mA m c) (∑ b : Fin 8, ∑ t : Fin 2048, comAt (zA m c) (mA m c) (wA m c) b t) := by
  refine (commit_after (Vend m c)).trans ?_
  rw [end_acc]
  funext y
  refine (commit_at _ y).trans ?_
  unfold meanOf
  exact congrArg₂ (fun p q => Ideal.div p (q * Ideal.ofBits .f32 0x42800000#32)) (acc_zero m c) (acc_two m c)

/-- The flat array of indices. -/
def ixFlat (z : ZArr) (w : WArr) : IVec S16384 32 := fun j =>
  ixAt z w ⟨(show Fin 16384 from j 0).val / 2048, by omega⟩ ⟨(show Fin 16384 from j 0).val % 2048, by omega⟩

/-- The flat indices at the end. -/
theorem flat_end (c : Dev nD) : Pipeline.afterTail₀ cfgs (dats m) 0 (V0 m) [hostOps1] c main_v14 = ixFlat (zA m c) (wA m c) := by
  refine (flat_after (Vend m c)).trans ?_
  rw [end_ix, final_ix]
  funext j
  rw [show j = ix1 (j 0) by blk_ext]
  exact flat_at _ (j 0)

/-- From any memory with every semaphore at zero the program ends with these results and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v13) = (fun _ => meanOf (mA m c) (∑ b : Fin 8, ∑ t : Fin 2048, gapAt (zA m c) (mA m c) b t))
      ∧ r.2.mem ((c.tc : Thread nD τ).loc main_v10) = (fun _ => meanOf (mA m c) (∑ b : Fin 8, ∑ t : Fin 2048, comAt (zA m c) (mA m c) (wA m c) b t))
      ∧ r.2.mem ((c.tc : Thread nD τ).loc main_v4_0) = lpArr (zA m c) (mA m c) (wA m c) (sA m c)
      ∧ r.2.mem ((c.tc : Thread nD τ).loc main_v14) = ixFlat (zA m c) (wA m c)) :=
  (θ_run defs _ _).mono (fun _ h c => ⟨
      ((h c).2 main_v13 (Pipeline.mem_restRefs_of main_v13 (by decide) (by decide))).trans (smooth_end m c),
      ((h c).2 main_v10 (Pipeline.mem_restRefs_of main_v10 (by decide) (by decide))).trans (commit_end m c),
      ((h c).1 4).trans (final_lp m c),
      ((h c).2 main_v14 (Pipeline.mem_restRefs_of main_v14 (by decide) (by decide))).trans (flat_end m c)⟩) (run_arrays m ρ)

end Cert.KernelIdeal.Value

end
-- ==== Proof.Input.lean ====
module

public import proofs.«01_k».proof.Pre_pre
public import proofs.«01_k».proof.Proof.Arrays
public import Idealize.ShloMosaic.Lib.ReduceAll
public import Idealize.ShloMosaic.PureOps.Ideal.Laws

@[expose] public section

set_option maxRecDepth 16384

noncomputable section

/-! What the precondition says of the arguments: the mask is zeros and ones, the codebook rows in use are finite. -/

namespace Cert.Pre_pre

open Idealize.ShloMosaic Cert.Vq

/-- The shapes fit. -/
instance facts : Cert.Pre_pre.Facts where
  slices_S1025x64_S1024x64_1_0 := by decide
  bcast_S_S8x2048x1 := by decide
  reducesTo_S8x2048x1_S_d0_1_2 := by decide
  h_S_ := by decide
  bcast_S_S1024x64 := by decide
  reducesTo_S1024x64_S_d0_1 := by decide

/-- The test of a mask entry. -/
def maskTest (k : MArr) : IVec S8x2048x1 1 :=
  ori (cmpf (F := Ideal) .oeq k (broadcastInDim S8x2048x1 ![] Facts.bcast_S_S8x2048x1 (constant (F := Ideal) S_ .f32 0x00000000#32)))
    (cmpf (F := Ideal) .oeq k (broadcastInDim S8x2048x1 ![] Facts.bcast_S_S8x2048x1 (constant (F := Ideal) S_ .f32 0x3F800000#32)))

/-- The test of a codebook entry. -/
def bookTest (w : WArr) : IVec S1024x64 1 :=
  andi (cmpf (F := Ideal) .olt (extractStridedSlice S1024x64 ![1, 0] w Facts.slices_S1025x64_S1024x64_1_0)
      (broadcastInDim S1024x64 ![] Facts.bcast_S_S1024x64 (constant (F := Ideal) S_ .f32 0x7F800000#32)))
    (cmpf (F := Ideal) .ogt (extractStridedSlice S1024x64 ![1, 0] w Facts.slices_S1025x64_S1024x64_1_0)
      (broadcastInDim S1024x64 ![] Facts.bcast_S_S1024x64 (constant (F := Ideal) S_ .f32 0xFF800000#32)))

/-- The precondition is that both tests hold everywhere. -/
theorem fn_open (z : ZArr) (k : MArr) (w : WArr) (s : IVec S_ 32) : fn (F := Ideal) z k w s
    = andi (Host.reduce IntOp.andi (maskTest k) (constantI S_ 1 1#1) Facts.reducesTo_S8x2048x1_S_d0_1_2 Facts.h_S_)
        (Host.reduce IntOp.andi (bookTest w) (constantI S_ 1 1#1) Facts.reducesTo_S1024x64_S_d0_1 Facts.h_S_) :=
  rfl

/-- A mask entry under its test. -/
theorem mask_test_at (k : MArr) (b : Fin 8) (t : Fin 2048) : maskTest k (ix3 b t 0)
    = IntOp.ori (Ideal.cmp .oeq (k (ix3 b t 0)) 0) (Ideal.cmp .oeq (k (ix3 b t 0)) 1) := by
  pointwise [maskTest]

/-- A codebook entry under its test. -/
theorem book_test_at (w : WArr) (j : Fin 1024) (c : Fin 64) : bookTest w (ix2 j c)
    = IntOp.andi (Ideal.cmp .olt (book w j c) ⊤) (Ideal.cmp .ogt (book w j c) ⊥) := by
  unfold book
  rw [← ofBits_top, ← ofBits_bot]
  pointwise [bookTest]

/-- There is one scalar index. -/
instance one_index : Subsingleton S_.Idx := ⟨fun i j => funext fun a => a.elim0⟩

/-- Both tests, everywhere. -/
theorem tests (z : ZArr) (k : MArr) (w : WArr) (s : IVec S_ 32) (h : fn (F := Ideal) z k w s = fun _ => 1#1) :
    (∀ i, maskTest k i = 1#1) ∧ ∀ i, bookTest w i = 1#1 := by
  rw [fn_open] at h
  have e := IntOp.andi_eq_one.1 (congrFun h ix0)
  exact ⟨fun i => Host.reduce_andi_all _ _ _ _ ix0 e.1 i, fun i => Host.reduce_andi_all _ _ _ _ ix0 e.2 i⟩

/-- The mask is zeros and ones. -/
theorem mask_bits (z : ZArr) (k : MArr) (w : WArr) (s : IVec S_ 32) (h : fn (F := Ideal) z k w s = fun _ => 1#1) (b : Fin 8)
    (t : Fin 2048) : k (ix3 b t 0) = 0 ∨ k (ix3 b t 0) = 1 := by
  have e := (tests z k w s h).1 (ix3 b t 0)
  rw [mask_test_at, IntOp.ori_eq_one] at e
  refine e.imp (fun a => ?_) fun a => ?_ <;> · by_contra hne; simp [Ideal.cmp, hne] at a

/-- The codebook rows in use are finite. -/
theorem book_finite (z : ZArr) (k : MArr) (w : WArr) (s : IVec S_ 32) (h : fn (F := Ideal) z k w s = fun _ => 1#1) (j : Fin 1024)
    (c : Fin 64) : ∃ r : ℝ, book w j c = r := by
  have e := (tests z k w s h).2 (ix2 j c)
  rw [book_test_at, IntOp.andi_eq_one] at e
  generalize book w j c = x at e
  induction x using EReal.rec with
  | bot => simp [Ideal.cmp] at e
  | coe r => exact ⟨r, rfl⟩
  | top => simp [Ideal.cmp] at e

end Cert.Pre_pre

end
-- ==== Proof.Equation.lean ====
module

public import proofs.«01_k».proof.Proof.RefLoss
public import proofs.«01_k».proof.Proof.Tail
public import proofs.«01_k».proof.Proof.Input

@[expose] public section

set_option maxRecDepth 16384

noncomputable section

/-! The reference's four results are those of the kernel. -/

namespace Cert.ReferenceIdeal.Value

open Idealize.ShloMosaic Idealize.ShloMosaic.TcCoe Idealize.SL.Sem
open Cert.ReferenceIdeal Cert.ReferenceIdeal.Gen Cert.ReferenceIdeal.Run Cert.Vq

/-- The arrays of log probabilities agree. -/
theorem lp_arr (z : ZArr) (k : MArr) (w : WArr) (s : IVec S_ 32) :
    rLp (F := Ideal) (rLsm (F := Ideal) (rShift (F := Ideal) (rLogits (F := Ideal) (rDist (F := Ideal) (rZn (F := Ideal) z) (rBook (F := Ideal) w)) s))) k
      = KernelIdeal.Value.lpArr z k w (s ix0) := by
  funext j
  rw [show j = ix3 (j 0) (j 1) (j 2) by blk_ext]
  exact lp_eq z k w s (j 0) (j 1) (j 2)

/-- The arrays of indices agree. -/
theorem ix_arr (z : ZArr) (w : WArr) :
    rIdx (F := Ideal) (rDist (F := Ideal) (rZn (F := Ideal) z) (rBook (F := Ideal) w)) = KernelIdeal.Value.ixFlat z w := by
  funext j
  rw [show j = ix1 (j 0) by blk_ext]
  exact ix_eq z w (j 0)

/-- A scalar array is its one entry. -/
theorem scalar_eq (f : FVec Ideal S_ .f32) (x : EReal) (h : f ix0 = x) : f = fun _ => x := by
  funext j
  rw [show j = ix0 from funext fun a => a.elim0]
  exact h

variable (m : (ℓ : Loc nD τ sig) → Buf (Elt Ideal) ℓ) (ρ : Dev nD → PrngReg)

/-- The arguments on a device. -/
abbrev zR (c : Dev nD) : ZArr := m ((c.tc : Thread nD τ).loc main_arg0)
abbrev mR (c : Dev nD) : MArr := m ((c.tc : Thread nD τ).loc main_arg1)
abbrev wR (c : Dev nD) : WArr := m ((c.tc : Thread nD τ).loc main_arg2)
abbrev sR (c : Dev nD) : IVec S_ 32 := m ((c.tc : Thread nD τ).loc main_arg3)

/-- Under the precondition the reference ends with the kernel's results and its arguments unchanged. -/
theorem run (h : ∀ c : Dev nD, Pre_pre.fn (F := Ideal) (zR m c) (mR m c) (wR m c) (sR m c) = fun _ => 1#1) :
    θ_run defs (onTc (τ := τ) (main (F := Ideal))) ⟨m, fun _ => 0, ρ⟩ (fun r => ∀ c : Dev nD,
      r.2.mem ((c.tc : Thread nD τ).loc main_v75) = (fun _ => meanOf (mR m c) (∑ b : Fin 8, ∑ t : Fin 2048, gapAt (zR m c) (mR m c) b t))
      ∧ r.2.mem ((c.tc : Thread nD τ).loc main_v66) = (fun _ => meanOf (mR m c) (∑ b : Fin 8, ∑ t : Fin 2048, comAt (zR m c) (mR m c) (wR m c) b t))
      ∧ r.2.mem ((c.tc : Thread nD τ).loc main_v36) = KernelIdeal.Value.lpArr (zR m c) (mR m c) (wR m c) (sR m c ix0)
      ∧ r.2.mem ((c.tc : Thread nD τ).loc main_v37) = KernelIdeal.Value.ixFlat (zR m c) (wR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ e c => by
    obtain ⟨e0, e1, e2, e3, ea⟩ := e.1 c
    have hk := Pre_pre.mask_bits _ _ _ _ (h c)
    have hw := Pre_pre.book_finite _ _ _ _ (h c)
    exact ⟨e0.trans (scalar_eq _ _ (smooth_eq (zR m c) (mR m c) hk)),
      e1.trans (scalar_eq _ _ (commit_eq (zR m c) (mR m c) (wR m c) hk hw)),
      e2.trans (lp_arr (zR m c) (mR m c) (wR m c) (sR m c)), e3.trans (ix_arr (zR m c) (wR m c)), ea⟩) (run_full (F := Ideal) m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsRun
public import proofs.«01_k».proof.Proof.Run
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

/-- The reference leaves its arguments as they were, with every counter at zero. -/
theorem reference_frame : Cert.quiescent_ReferenceIdeal (hReferenceIdeal := Cert.ReferenceIdeal.Gen.facts) := fun m g _ =>
  (θ_run _ _ _).mono (fun _ h => ⟨fun c => (h.1 c).2.2.2.2, h.2⟩) (Cert.ReferenceIdeal.Run.run_full (F := Ideal) m g)

/-- The program leaves its arguments as they were, with every counter at zero. -/
theorem kernel_frame : Cert.quiescent_Kernel (hKernel := Cert.Kernel.Gen.facts) := fun m g _ =>
  Cert.Kernel.Run.quiescent (F := Bits) m g

/-- Under the precondition, from equal arguments, the program and the reference end with equal results and their arguments unchanged. -/
theorem equation : Cert.algebraic_KernelIdeal_ReferenceIdeal_pre_pre (hKernelIdeal := Cert.KernelIdeal.Gen.facts)
    (hReferenceIdeal := Cert.ReferenceIdeal.Gen.facts) (hPre_pre := Cert.Pre_pre.facts) := by
  intro m g m' g' hpre hargs
  have e0 (c) : Cert.ReferenceIdeal.Value.zR m' c = Cert.KernelIdeal.Value.zA m c := (hargs c).1
  have e1 (c) : Cert.ReferenceIdeal.Value.mR m' c = Cert.KernelIdeal.Value.mA m c := (hargs c).2.1
  have e2 (c) : Cert.ReferenceIdeal.Value.wR m' c = Cert.KernelIdeal.Value.wA m c := (hargs c).2.2.1
  have e3 (c) : Cert.ReferenceIdeal.Value.sR m' c ix0 = Cert.KernelIdeal.Value.sA m c := congrFun (hargs c).2.2.2 ix0
  have hpre' (c) : Cert.Pre_pre.fn (F := Ideal) (Cert.ReferenceIdeal.Value.zR m' c) (Cert.ReferenceIdeal.Value.mR m' c)
      (Cert.ReferenceIdeal.Value.wR m' c) (Cert.ReferenceIdeal.Value.sR m' c) = fun _ => 1#1 := by
    rw [e0, e1, e2, show Cert.ReferenceIdeal.Value.sR m' c = _ from (hargs c).2.2.2]
    exact hpre c
  refine ⟨_, _, _, _,
    (θ_run _ _ _).mono (fun _ h c => ⟨(h.1 c).1, (h.1 c).2.1, (h.1 c).2.2.1, (h.1 c).2.2.2, h.2.1 c⟩)
      (θ_run_and (Cert.KernelIdeal.Value.run m g) (Cert.KernelIdeal.Run.quiescent (F := Ideal) m g)),
    (θ_run _ _ _).mono (fun _ h c => ?_) (Cert.ReferenceIdeal.Value.run m' g' hpre')⟩
  have hc := h c
  rw [e0, e1, e2, e3] at hc
  exact hc

/-- Everything the certificate claims. -/
theorem claim : Cert.Claim := ⟨Cert.Kernel.Gen.facts, Cert.KernelIdeal.Gen.facts, Cert.ReferenceIdeal.Gen.facts, Cert.Pre_pre.facts,
  kernel_frame, fun m g _ => Cert.KernelIdeal.Run.quiescent (F := Ideal) m g, fun m g _ => Cert.KernelIdeal.Run.quiescent (F := Ideal) m g,
  reference_frame, fun m g _ => reference_frame m g trivial, trivial, equation⟩

end Cert.Proof

end
